-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S_ : Shape := ⟨0, ![]⟩
abbrev S1x1 : Shape := ⟨2, ![1, 1]⟩
abbrev S2x1024x1024 : Shape := ⟨3, ![2, 1024, 1024]⟩
abbrev S2x4x1024x512 : Shape := ⟨4, ![2, 4, 1024, 512]⟩
abbrev S2x8x1024x512 : Shape := ⟨4, ![2, 8, 1024, 512]⟩
abbrev S1024x1024 : Shape := ⟨2, ![1024, 1024]⟩
abbrev S2 : Shape := ⟨1, ![2]⟩
abbrev S2x4 : Shape := ⟨2, ![2, 4]⟩
abbrev S2x8 : Shape := ⟨2, ![2, 8]⟩
abbrev S1x1024x1024 : Shape := ⟨3, ![1, 1024, 1024]⟩
abbrev S1024x512 : Shape := ⟨2, ![1024, 512]⟩
abbrev S1x1x1024x512 : Shape := ⟨4, ![1, 1, 1024, 512]⟩

abbrev nBuf : Space → Nat
  | .hbm => 9
  | .vmem => 7
  | .smem => 1
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S1024x8192, .f32⟩
  | .local _ .vmem, ⟨0, _⟩ => ⟨S4096x1024, .fp8e5m2⟩
  | .local _ .vmem, ⟨1, _⟩ => ⟨S2x1024x1024, .f32⟩
  | .local _ .vmem, ⟨2, _⟩ => ⟨S1024x8192, .fp8e5m2⟩
  | .local _ .vmem, ⟨3, _⟩ => ⟨S2x1024x1024, .f32⟩
  | .local _ .vmem, ⟨4, _⟩ => ⟨S2x4x1024x512, .bf16⟩
  | .local _ .vmem, ⟨5, _⟩ => ⟨S2x8x1024x512, .bf16⟩
  | .local _ .vmem, ⟨6, _⟩ => ⟨S1024x1024, .f32⟩
  | .local _ .smem, ⟨0, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 3 30 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_off1 (d0 : Dev nD) (c3_i32_4 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c3_i32_4
  let c4_i32_5 : BitVec 32 := 4#32
  let v9 : BitVec 32 := Scalar.remsi v8 c4_i32_5
  let c1024_i32 : BitVec 32 := 1024#32
  let v14 : BitVec 32 := Scalar.muli v9 c1024_i32
  let c0_i32_13 : BitVec 32 := 0#32
  ![v14.toNat, 0]
def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_32 : BitVec 32 := 1#32
  let v37 : BitVec 32 := Scalar.muli v4 c1_i32_32
  let v38 : BitVec 32 := Scalar.addi c0_i32_33 v37
  v38.toNat
def k0_dev2 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_35 : BitVec 32 := 1#32
  let v39 : BitVec 32 := Scalar.muli v6 c1_i32_35
  let v40 : BitVec 32 := Scalar.addi c0_i32_36 v39
  v40.toNat
def k0_off2 (d0 : Dev nD) (c3_i32_4 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c3_i32_4
  let c4_i32_5 : BitVec 32 := 4#32
  let v9 : BitVec 32 := Scalar.remsi v8 c4_i32_5
  let c1024_i32_46 : BitVec 32 := 1024#32
  let v49 : BitVec 32 := Scalar.muli v9 c1024_i32_46
  let v50 : Index := Scalar.indexCast v49
  let c0_47 : Index := 0#32
  ![v50.toNat, 0]
def k0_off2_at (r : Fin 5) : BitVec 32 :=
  if r.val < 2 then
    if r.val < 1 then
      3#32
    else
      1#32
  else
    if r.val < 3 then
      2#32
    else
      if r.val < 4 then
        6#32
      else
        5#32
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_58 : BitVec 32 := 1024#32
  let v68 : BitVec 32 := Scalar.muli v2 c1024_i32_58
  let c0_i32_68 : BitVec 32 := 0#32
  ![v68.toNat, 0]
def k0_dev3 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_101 : BitVec 32 := 1#32
  let v104 : BitVec 32 := Scalar.muli v6 c1_i32_101
  let v105 : BitVec 32 := Scalar.addi c0_i32_102 v104
  v105.toNat
def k0_dev4 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_123 : BitVec 32 := 1#32
  let v123 : BitVec 32 := Scalar.muli v4 c1_i32_123
  let v124 : BitVec 32 := Scalar.addi c0_i32_124 v123
  v124.toNat
def k0_dev5 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_161 : BitVec 32 := 1#32
  let v158 : BitVec 32 := Scalar.muli v6 c1_i32_161
  let v159 : BitVec 32 := Scalar.addi c0_i32_162 v158
  v159.toNat
def k0_dev6 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_183 : BitVec 32 := 1#32
  let v177 : BitVec 32 := Scalar.muli v4 c1_i32_183
  let v178 : BitVec 32 := Scalar.addi c0_i32_184 v177
  v178.toNat
def k0_dev7 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_220 : BitVec 32 := 1#32
  let v212 : BitVec 32 := Scalar.muli v6 c1_i32_220
  let v213 : BitVec 32 := Scalar.addi c0_i32_221 v212
  v213.toNat
def k0_dev8 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_242 : BitVec 32 := 1#32
  let v231 : BitVec 32 := Scalar.muli v4 c1_i32_242
  let v232 : BitVec 32 := Scalar.addi c0_i32_243 v231
  v232.toNat
def k0_dev9 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_279 : BitVec 32 := 1#32
  let v266 : BitVec 32 := Scalar.muli v6 c1_i32_279
  let v267 : BitVec 32 := Scalar.addi c0_i32_280 v266
  v267.toNat
def k0_dev10 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_301 : BitVec 32 := 1#32
  let v285 : BitVec 32 := Scalar.muli v4 c1_i32_301
  let v286 : BitVec 32 := Scalar.addi c0_i32_302 v285
  v286.toNat
def k0_dev11 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_352 : BitVec 32 := 1#32
  let v326 : BitVec 32 := Scalar.muli v6 c1_i32_352
  let v327 : BitVec 32 := Scalar.addi c0_i32_353 v326
  v327.toNat
def k0_dev12 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_387 : BitVec 32 := 1#32
  let v351 : BitVec 32 := Scalar.muli v4 c1_i32_387
  let v352 : BitVec 32 := Scalar.addi c0_i32_388 v351
  v352.toNat
def k0_dev13 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_437 : BitVec 32 := 1#32
  let v392 : BitVec 32 := Scalar.muli v6 c1_i32_437
  let v393 : BitVec 32 := Scalar.addi c0_i32_438 v392
  v393.toNat
def k0_dev14 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_472 : BitVec 32 := 1#32
  let v417 : BitVec 32 := Scalar.muli v4 c1_i32_472
  let v418 : BitVec 32 := Scalar.addi c0_i32_473 v417
  v418.toNat
def k0_dev15 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_517 : BitVec 32 := 1#32
  let v453 : BitVec 32 := Scalar.muli v6 c1_i32_517
  let v454 : BitVec 32 := Scalar.addi c0_i32_518 v453
  v454.toNat
def k0_dev16 (d0 : Dev nD) : Nat :=
  let c0_i32_553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_552 : BitVec 32 := 1#32
  let v478 : BitVec 32 := Scalar.muli v4 c1_i32_552
  let v479 : BitVec 32 := Scalar.addi c0_i32_553 v478
  v479.toNat
def k0_dev17 (d0 : Dev nD) : Nat :=
  let c0_i32_598 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_597 : BitVec 32 := 1#32
  let v514 : BitVec 32 := Scalar.muli v6 c1_i32_597
  let v515 : BitVec 32 := Scalar.addi c0_i32_598 v514
  v515.toNat
def k0_dev18 (d0 : Dev nD) : Nat :=
  let c0_i32_633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_632 : BitVec 32 := 1#32
  let v539 : BitVec 32 := Scalar.muli v4 c1_i32_632
  let v540 : BitVec 32 := Scalar.addi c0_i32_633 v539
  v540.toNat
def k0_off4 (d0 : Dev nD) (c1_i32_650 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v564 : BitVec 32 := Scalar.addi v2 c1_i32_650
  let c1_i32_651 : BitVec 32 := 1#32
  let v565 : BitVec 32 := Scalar.addi v564 c1_i32_651
  let c4_i32_652 : BitVec 32 := 4#32
  let v566 : BitVec 32 := Scalar.remsi v565 c4_i32_652
  let c1024_i32_658 : BitVec 32 := 1024#32
  let v572 : BitVec 32 := Scalar.muli v566 c1024_i32_658
  let v573 : Index := Scalar.indexCast v572
  let c0_659 : Index := 0#32
  ![v573.toNat, 0]
def k0_dev19 (d0 : Dev nD) : Nat :=
  let c0_i32_700 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_699 : BitVec 32 := 1#32
  let v599 : BitVec 32 := Scalar.muli v4 c1_i32_699
  let v600 : BitVec 32 := Scalar.addi c0_i32_700 v599
  v600.toNat
def k0_dev20 (d0 : Dev nD) : Nat :=
  let c0_i32_712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_711 : BitVec 32 := 1#32
  let v601 : BitVec 32 := Scalar.muli v6 c1_i32_711
  let v602 : BitVec 32 := Scalar.addi c0_i32_712 v601
  v602.toNat
def k0_dev21 (d0 : Dev nD) : Nat :=
  let c0_i32_754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_753 : BitVec 32 := 1#32
  let v633 : BitVec 32 := Scalar.muli v6 c1_i32_753
  let v634 : BitVec 32 := Scalar.addi c0_i32_754 v633
  v634.toNat
def k0_dev22 (d0 : Dev nD) : Nat :=
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_765 : BitVec 32 := 1#32
  let v635 : BitVec 32 := Scalar.muli v4 c1_i32_765
  let v636 : BitVec 32 := Scalar.addi c0_i32_766 v635
  v636.toNat
def k0_dev23 (d0 : Dev nD) : Nat :=
  let c0_i32_818 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_817 : BitVec 32 := 1#32
  let v677 : BitVec 32 := Scalar.muli v4 c1_i32_817
  let v678 : BitVec 32 := Scalar.addi c0_i32_818 v677
  v678.toNat
def k0_dev24 (d0 : Dev nD) : Nat :=
  let c0_i32_830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_829 : BitVec 32 := 1#32
  let v679 : BitVec 32 := Scalar.muli v6 c1_i32_829
  let v680 : BitVec 32 := Scalar.addi c0_i32_830 v679
  v680.toNat
def k0_dev25 (d0 : Dev nD) : Nat :=
  let c0_i32_872 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_871 : BitVec 32 := 1#32
  let v711 : BitVec 32 := Scalar.muli v6 c1_i32_871
  let v712 : BitVec 32 := Scalar.addi c0_i32_872 v711
  v712.toNat
def k0_dev26 (d0 : Dev nD) : Nat :=
  let c0_i32_884 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_883 : BitVec 32 := 1#32
  let v713 : BitVec 32 := Scalar.muli v4 c1_i32_883
  let v714 : BitVec 32 := Scalar.addi c0_i32_884 v713
  v714.toNat
def k0_dev27 (d0 : Dev nD) : Nat :=
  let c0_i32_936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_935 : BitVec 32 := 1#32
  let v755 : BitVec 32 := Scalar.muli v4 c1_i32_935
  let v756 : BitVec 32 := Scalar.addi c0_i32_936 v755
  v756.toNat
def k0_dev28 (d0 : Dev nD) : Nat :=
  let c0_i32_948 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_947 : BitVec 32 := 1#32
  let v757 : BitVec 32 := Scalar.muli v6 c1_i32_947
  let v758 : BitVec 32 := Scalar.addi c0_i32_948 v757
  v758.toNat
def k0_dev29 (d0 : Dev nD) : Nat :=
  let c0_i32_990 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_989 : BitVec 32 := 1#32
  let v789 : BitVec 32 := Scalar.muli v6 c1_i32_989
  let v790 : BitVec 32 := Scalar.addi c0_i32_990 v789
  v790.toNat
def k0_dev30 (d0 : Dev nD) : Nat :=
  let c0_i32_1002 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1001 : BitVec 32 := 1#32
  let v791 : BitVec 32 := Scalar.muli v4 c1_i32_1001
  let v792 : BitVec 32 := Scalar.addi c0_i32_1002 v791
  v792.toNat
def k0_dev31 (d0 : Dev nD) : Nat :=
  let c0_i32_1054 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1053 : BitVec 32 := 1#32
  let v833 : BitVec 32 := Scalar.muli v4 c1_i32_1053
  let v834 : BitVec 32 := Scalar.addi c0_i32_1054 v833
  v834.toNat
def k0_dev32 (d0 : Dev nD) : Nat :=
  let c0_i32_1066 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1065 : BitVec 32 := 1#32
  let v835 : BitVec 32 := Scalar.muli v6 c1_i32_1065
  let v836 : BitVec 32 := Scalar.addi c0_i32_1066 v835
  v836.toNat
def k0_dev33 (d0 : Dev nD) : Nat :=
  let c0_i32_1108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1107 : BitVec 32 := 1#32
  let v867 : BitVec 32 := Scalar.muli v6 c1_i32_1107
  let v868 : BitVec 32 := Scalar.addi c0_i32_1108 v867
  v868.toNat
def k0_dev34 (d0 : Dev nD) : Nat :=
  let c0_i32_1120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1119 : BitVec 32 := 1#32
  let v869 : BitVec 32 := Scalar.muli v4 c1_i32_1119
  let v870 : BitVec 32 := Scalar.addi c0_i32_1120 v869
  v870.toNat
def k0_dev35 (d0 : Dev nD) : Nat :=
  let c0_i32_1171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1170 : BitVec 32 := 1#32
  let v911 : BitVec 32 := Scalar.muli v4 c1_i32_1170
  let v912 : BitVec 32 := Scalar.addi c0_i32_1171 v911
  v912.toNat
def k0_dev36 (d0 : Dev nD) : Nat :=
  let c0_i32_1183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1182 : BitVec 32 := 1#32
  let v913 : BitVec 32 := Scalar.muli v6 c1_i32_1182
  let v914 : BitVec 32 := Scalar.addi c0_i32_1183 v913
  v914.toNat
def k0_dev37 (d0 : Dev nD) : Nat :=
  let c0_i32_1225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1224 : BitVec 32 := 1#32
  let v945 : BitVec 32 := Scalar.muli v6 c1_i32_1224
  let v946 : BitVec 32 := Scalar.addi c0_i32_1225 v945
  v946.toNat
def k0_dev38 (d0 : Dev nD) : Nat :=
  let c0_i32_1237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1236 : BitVec 32 := 1#32
  let v947 : BitVec 32 := Scalar.muli v4 c1_i32_1236
  let v948 : BitVec 32 := Scalar.addi c0_i32_1237 v947
  v948.toNat
def k0_dev39 (d0 : Dev nD) : Nat :=
  let c0_i32_1288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1287 : BitVec 32 := 1#32
  let v989 : BitVec 32 := Scalar.muli v4 c1_i32_1287
  let v990 : BitVec 32 := Scalar.addi c0_i32_1288 v989
  v990.toNat
def k0_dev40 (d0 : Dev nD) : Nat :=
  let c0_i32_1300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1299 : BitVec 32 := 1#32
  let v991 : BitVec 32 := Scalar.muli v6 c1_i32_1299
  let v992 : BitVec 32 := Scalar.addi c0_i32_1300 v991
  v992.toNat
def k0_dev41 (d0 : Dev nD) : Nat :=
  let c0_i32_1342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1341 : BitVec 32 := 1#32
  let v1023 : BitVec 32 := Scalar.muli v6 c1_i32_1341
  let v1024 : BitVec 32 := Scalar.addi c0_i32_1342 v1023
  v1024.toNat
def k0_dev42 (d0 : Dev nD) : Nat :=
  let c0_i32_1354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1353 : BitVec 32 := 1#32
  let v1025 : BitVec 32 := Scalar.muli v4 c1_i32_1353
  let v1026 : BitVec 32 := Scalar.addi c0_i32_1354 v1025
  v1026.toNat
def k0_dev43 (d0 : Dev nD) : Nat :=
  let c0_i32_1405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1404 : BitVec 32 := 1#32
  let v1067 : BitVec 32 := Scalar.muli v4 c1_i32_1404
  let v1068 : BitVec 32 := Scalar.addi c0_i32_1405 v1067
  v1068.toNat
def k0_dev44 (d0 : Dev nD) : Nat :=
  let c0_i32_1417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1416 : BitVec 32 := 1#32
  let v1069 : BitVec 32 := Scalar.muli v6 c1_i32_1416
  let v1070 : BitVec 32 := Scalar.addi c0_i32_1417 v1069
  v1070.toNat
def k0_dev45 (d0 : Dev nD) : Nat :=
  let c0_i32_1459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1458 : BitVec 32 := 1#32
  let v1101 : BitVec 32 := Scalar.muli v6 c1_i32_1458
  let v1102 : BitVec 32 := Scalar.addi c0_i32_1459 v1101
  v1102.toNat
def k0_dev46 (d0 : Dev nD) : Nat :=
  let c0_i32_1471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1470 : BitVec 32 := 1#32
  let v1103 : BitVec 32 := Scalar.muli v4 c1_i32_1470
  let v1104 : BitVec 32 := Scalar.addi c0_i32_1471 v1103
  v1104.toNat
def k0_dev47 (d0 : Dev nD) : Nat :=
  let c0_i32_1522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1521 : BitVec 32 := 1#32
  let v1145 : BitVec 32 := Scalar.muli v4 c1_i32_1521
  let v1146 : BitVec 32 := Scalar.addi c0_i32_1522 v1145
  v1146.toNat
def k0_dev48 (d0 : Dev nD) : Nat :=
  let c0_i32_1534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1533 : BitVec 32 := 1#32
  let v1147 : BitVec 32 := Scalar.muli v6 c1_i32_1533
  let v1148 : BitVec 32 := Scalar.addi c0_i32_1534 v1147
  v1148.toNat
def k0_dev49 (d0 : Dev nD) : Nat :=
  let c0_i32_1576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1575 : BitVec 32 := 1#32
  let v1179 : BitVec 32 := Scalar.muli v6 c1_i32_1575
  let v1180 : BitVec 32 := Scalar.addi c0_i32_1576 v1179
  v1180.toNat
def k0_dev50 (d0 : Dev nD) : Nat :=
  let c0_i32_1588 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1587 : BitVec 32 := 1#32
  let v1181 : BitVec 32 := Scalar.muli v4 c1_i32_1587
  let v1182 : BitVec 32 := Scalar.addi c0_i32_1588 v1181
  v1182.toNat
def k0_dev51 (d0 : Dev nD) : Nat :=
  let c0_i32_1645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1644 : BitVec 32 := 1#32
  let v1228 : BitVec 32 := Scalar.muli v4 c1_i32_1644
  let v1229 : BitVec 32 := Scalar.addi c0_i32_1645 v1228
  v1229.toNat
def k0_dev52 (d0 : Dev nD) : Nat :=
  let c0_i32_1657 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1656 : BitVec 32 := 1#32
  let v1230 : BitVec 32 := Scalar.muli v6 c1_i32_1656
  let v1231 : BitVec 32 := Scalar.addi c0_i32_1657 v1230
  v1231.toNat
def k0_dev53 (d0 : Dev nD) : Nat :=
  let c0_i32_1699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1698 : BitVec 32 := 1#32
  let v1262 : BitVec 32 := Scalar.muli v6 c1_i32_1698
  let v1263 : BitVec 32 := Scalar.addi c0_i32_1699 v1262
  v1263.toNat
def k0_dev54 (d0 : Dev nD) : Nat :=
  let c0_i32_1711 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1710 : BitVec 32 := 1#32
  let v1264 : BitVec 32 := Scalar.muli v4 c1_i32_1710
  let v1265 : BitVec 32 := Scalar.addi c0_i32_1711 v1264
  v1265.toNat
def k0_dev55 (d0 : Dev nD) : Nat :=
  let c0_i32_1763 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1762 : BitVec 32 := 1#32
  let v1306 : BitVec 32 := Scalar.muli v4 c1_i32_1762
  let v1307 : BitVec 32 := Scalar.addi c0_i32_1763 v1306
  v1307.toNat
def k0_dev56 (d0 : Dev nD) : Nat :=
  let c0_i32_1775 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1774 : BitVec 32 := 1#32
  let v1308 : BitVec 32 := Scalar.muli v6 c1_i32_1774
  let v1309 : BitVec 32 := Scalar.addi c0_i32_1775 v1308
  v1309.toNat
def k0_dev57 (d0 : Dev nD) : Nat :=
  let c0_i32_1817 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1816 : BitVec 32 := 1#32
  let v1340 : BitVec 32 := Scalar.muli v6 c1_i32_1816
  let v1341 : BitVec 32 := Scalar.addi c0_i32_1817 v1340
  v1341.toNat
def k0_dev58 (d0 : Dev nD) : Nat :=
  let c0_i32_1829 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1828 : BitVec 32 := 1#32
  let v1342 : BitVec 32 := Scalar.muli v4 c1_i32_1828
  let v1343 : BitVec 32 := Scalar.addi c0_i32_1829 v1342
  v1343.toNat
def k0_dev59 (d0 : Dev nD) : Nat :=
  let c0_i32_1881 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1880 : BitVec 32 := 1#32
  let v1384 : BitVec 32 := Scalar.muli v4 c1_i32_1880
  let v1385 : BitVec 32 := Scalar.addi c0_i32_1881 v1384
  v1385.toNat
def k0_dev60 (d0 : Dev nD) : Nat :=
  let c0_i32_1893 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1892 : BitVec 32 := 1#32
  let v1386 : BitVec 32 := Scalar.muli v6 c1_i32_1892
  let v1387 : BitVec 32 := Scalar.addi c0_i32_1893 v1386
  v1387.toNat
def k0_dev61 (d0 : Dev nD) : Nat :=
  let c0_i32_1935 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1934 : BitVec 32 := 1#32
  let v1418 : BitVec 32 := Scalar.muli v6 c1_i32_1934
  let v1419 : BitVec 32 := Scalar.addi c0_i32_1935 v1418
  v1419.toNat
def k0_dev62 (d0 : Dev nD) : Nat :=
  let c0_i32_1947 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1946 : BitVec 32 := 1#32
  let v1420 : BitVec 32 := Scalar.muli v4 c1_i32_1946
  let v1421 : BitVec 32 := Scalar.addi c0_i32_1947 v1420
  v1421.toNat
def k0_dev63 (d0 : Dev nD) : Nat :=
  let c0_i32_1999 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1998 : BitVec 32 := 1#32
  let v1462 : BitVec 32 := Scalar.muli v4 c1_i32_1998
  let v1463 : BitVec 32 := Scalar.addi c0_i32_1999 v1462
  v1463.toNat
def k0_dev64 (d0 : Dev nD) : Nat :=
  let c0_i32_2011 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2010 : BitVec 32 := 1#32
  let v1464 : BitVec 32 := Scalar.muli v6 c1_i32_2010
  let v1465 : BitVec 32 := Scalar.addi c0_i32_2011 v1464
  v1465.toNat
def k0_dev65 (d0 : Dev nD) : Nat :=
  let c0_i32_2053 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2052 : BitVec 32 := 1#32
  let v1496 : BitVec 32 := Scalar.muli v6 c1_i32_2052
  let v1497 : BitVec 32 := Scalar.addi c0_i32_2053 v1496
  v1497.toNat
def k0_dev66 (d0 : Dev nD) : Nat :=
  let c0_i32_2065 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2064 : BitVec 32 := 1#32
  let v1498 : BitVec 32 := Scalar.muli v4 c1_i32_2064
  let v1499 : BitVec 32 := Scalar.addi c0_i32_2065 v1498
  v1499.toNat
def k0_dev67 (d0 : Dev nD) : Nat :=
  let c0_i32_2117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2116 : BitVec 32 := 1#32
  let v1540 : BitVec 32 := Scalar.muli v4 c1_i32_2116
  let v1541 : BitVec 32 := Scalar.addi c0_i32_2117 v1540
  v1541.toNat
def k0_dev68 (d0 : Dev nD) : Nat :=
  let c0_i32_2129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2128 : BitVec 32 := 1#32
  let v1542 : BitVec 32 := Scalar.muli v6 c1_i32_2128
  let v1543 : BitVec 32 := Scalar.addi c0_i32_2129 v1542
  v1543.toNat
def k0_dev69 (d0 : Dev nD) : Nat :=
  let c0_i32_2171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2170 : BitVec 32 := 1#32
  let v1574 : BitVec 32 := Scalar.muli v6 c1_i32_2170
  let v1575 : BitVec 32 := Scalar.addi c0_i32_2171 v1574
  v1575.toNat
def k0_dev70 (d0 : Dev nD) : Nat :=
  let c0_i32_2183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2182 : BitVec 32 := 1#32
  let v1576 : BitVec 32 := Scalar.muli v4 c1_i32_2182
  let v1577 : BitVec 32 := Scalar.addi c0_i32_2183 v1576
  v1577.toNat
def k0_dev71 (d0 : Dev nD) : Nat :=
  let c0_i32_2235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2234 : BitVec 32 := 1#32
  let v1618 : BitVec 32 := Scalar.muli v4 c1_i32_2234
  let v1619 : BitVec 32 := Scalar.addi c0_i32_2235 v1618
  v1619.toNat
def k0_dev72 (d0 : Dev nD) : Nat :=
  let c0_i32_2247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2246 : BitVec 32 := 1#32
  let v1620 : BitVec 32 := Scalar.muli v6 c1_i32_2246
  let v1621 : BitVec 32 := Scalar.addi c0_i32_2247 v1620
  v1621.toNat
def k0_dev73 (d0 : Dev nD) : Nat :=
  let c0_i32_2289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2288 : BitVec 32 := 1#32
  let v1652 : BitVec 32 := Scalar.muli v6 c1_i32_2288
  let v1653 : BitVec 32 := Scalar.addi c0_i32_2289 v1652
  v1653.toNat
def k0_dev74 (d0 : Dev nD) : Nat :=
  let c0_i32_2301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2300 : BitVec 32 := 1#32
  let v1654 : BitVec 32 := Scalar.muli v4 c1_i32_2300
  let v1655 : BitVec 32 := Scalar.addi c0_i32_2301 v1654
  v1655.toNat
def k0_dev75 (d0 : Dev nD) : Nat :=
  let c0_i32_2353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2352 : BitVec 32 := 1#32
  let v1696 : BitVec 32 := Scalar.muli v4 c1_i32_2352
  let v1697 : BitVec 32 := Scalar.addi c0_i32_2353 v1696
  v1697.toNat
def k0_dev76 (d0 : Dev nD) : Nat :=
  let c0_i32_2365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2364 : BitVec 32 := 1#32
  let v1698 : BitVec 32 := Scalar.muli v6 c1_i32_2364
  let v1699 : BitVec 32 := Scalar.addi c0_i32_2365 v1698
  v1699.toNat
def k0_dev77 (d0 : Dev nD) : Nat :=
  let c0_i32_2407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2406 : BitVec 32 := 1#32
  let v1730 : BitVec 32 := Scalar.muli v6 c1_i32_2406
  let v1731 : BitVec 32 := Scalar.addi c0_i32_2407 v1730
  v1731.toNat
def k0_dev78 (d0 : Dev nD) : Nat :=
  let c0_i32_2419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2418 : BitVec 32 := 1#32
  let v1732 : BitVec 32 := Scalar.muli v4 c1_i32_2418
  let v1733 : BitVec 32 := Scalar.addi c0_i32_2419 v1732
  v1733.toNat
def k0_dev79 (d0 : Dev nD) : Nat :=
  let c0_i32_2471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2470 : BitVec 32 := 1#32
  let v1774 : BitVec 32 := Scalar.muli v4 c1_i32_2470
  let v1775 : BitVec 32 := Scalar.addi c0_i32_2471 v1774
  v1775.toNat
def k0_dev80 (d0 : Dev nD) : Nat :=
  let c0_i32_2483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2482 : BitVec 32 := 1#32
  let v1776 : BitVec 32 := Scalar.muli v6 c1_i32_2482
  let v1777 : BitVec 32 := Scalar.addi c0_i32_2483 v1776
  v1777.toNat
def k0_dev81 (d0 : Dev nD) : Nat :=
  let c0_i32_2525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_2524 : BitVec 32 := 1#32
  let v1808 : BitVec 32 := Scalar.muli v6 c1_i32_2524
  let v1809 : BitVec 32 := Scalar.addi c0_i32_2525 v1808
  v1809.toNat
def k0_dev82 (d0 : Dev nD) : Nat :=
  let c0_i32_2537 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_2536 : BitVec 32 := 1#32
  let v1810 : BitVec 32 := Scalar.muli v4 c1_i32_2536
  let v1811 : BitVec 32 := Scalar.addi c0_i32_2537 v1810
  v1811.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_2550 : BitVec 32 := 1024#32
  let v1828 : BitVec 32 := Scalar.muli v2 c1024_i32_2550
  let v1829 : Index := Scalar.indexCast v1828
  let c0_2551 : Index := 0#32
  ![v1829.toNat, 0]
abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Frags.lean ====
/-
  The kernel body of `KernelIdeal` as a sequence of a few FRAGMENTS, each written once over the direction, the column block and
  the ring step: fetching and casting a chunk of `x`, a seed step, a ring step, a last step and the closing waits.
  `body_eq` says the printed body is their sequence.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.Sem

variable {F : FTy → Type} [FloatOps F]

/-- A program of one device. -/
abbrev Pg (F : FTy → Type) [FloatOps F] : Type → Type 1 := Prog (TpuEff nD τ sig (Elt F) Λ₀ .tc)

/-! ## Rectangles: a slot of each slotted buffer, a column block, a half column block -/

theorem inbX (k : Fin 2) : ∀ a, (![k.val, 0, 0] : Fin 3 → ℕ) a + S1x1024x1024.size a ≤ S2x1024x1024.size a := by revert k; decide
theorem inbSd (di : Fin 2) (j : Fin 4) : ∀ a, (![di.val, j.val, 0, 0] : Fin 4 → ℕ) a + S1x1x1024x512.size a ≤ S2x4x1024x512.size a := by
  revert di j; decide
theorem inbRc (di : Fin 2) (b : Fin 8) : ∀ a, (![di.val, b.val, 0, 0] : Fin 4 → ℕ) a + S1x1x1024x512.size a ≤ S2x8x1024x512.size a := by
  revert di b; decide
theorem inbW (b : Fin 8) : ∀ a, (![0, b.val * 1024] : Fin 2 → ℕ) a + S1024x1024.size a ≤ S1024x8192.size a := by revert b; decide
theorem inbH (b : Fin 8) (di : Fin 2) : ∀ a, (![0, b.val * 1024 + di.val * 512] : Fin 2 → ℕ) a + S1024x512.size a ≤ S1024x8192.size a := by
  revert b di; decide
theorem inbG (di : Fin 2) : ∀ a, (![0, di.val * 512] : Fin 2 → ℕ) a + S1024x512.size a ≤ S1024x1024.size a := by revert di; decide
theorem inbS2 (k : Fin 2) : ∀ a, (![k.val] : Fin 1 → ℕ) a + S1.size a ≤ S2.size a := by revert k; decide
theorem inbS24 (di : Fin 2) (j : Fin 4) : ∀ a, (![di.val, j.val] : Fin 2 → ℕ) a + S1x1.size a ≤ S2x4.size a := by revert di j; decide
theorem inbS28 (di : Fin 2) (b : Fin 8) : ∀ a, (![di.val, b.val] : Fin 2 → ℕ) a + S1x1.size a ≤ S2x8.size a := by revert di b; decide

abbrev rX (k : Fin 2) : Rect S2x1024x1024 := Rect.unit (s := S2x1024x1024) ![k.val, 0, 0] S1x1024x1024.size (inbX k)
abbrev rSd (di : Fin 2) (j : Fin 4) : Rect S2x4x1024x512 := Rect.unit (s := S2x4x1024x512) ![di.val, j.val, 0, 0] S1x1x1024x512.size (inbSd di j)
abbrev rRc (di : Fin 2) (b : Fin 8) : Rect S2x8x1024x512 := Rect.unit (s := S2x8x1024x512) ![di.val, b.val, 0, 0] S1x1x1024x512.size (inbRc di b)
abbrev rW (b : Fin 8) : Rect S1024x8192 := Rect.unit (s := S1024x8192) ![0, b.val * 1024] S1024x1024.size (inbW b)
abbrev rH (b : Fin 8) (di : Fin 2) : Rect S1024x8192 := Rect.unit (s := S1024x8192) ![0, b.val * 1024 + di.val * 512] S1024x512.size (inbH b di)
abbrev rG (di : Fin 2) : Rect S1024x1024 := Rect.unit (s := S1024x1024) ![0, di.val * 512] S1024x512.size (inbG di)
abbrev rC (o : Fin 2 → ℕ) (h : ∀ a, o a + S1024x1024.size a ≤ S4096x1024.size a) : Rect S4096x1024 :=
  Rect.unit (s := S4096x1024) o S1024x1024.size h

theorem wordsSd (di : Fin 2) (j : Fin 4) : (rSd di j).WholeWords (EltTy.packing .bf16) := by revert di j; decide
theorem packedSd (di : Fin 2) (j : Fin 4) : (rSd di j).PackedRows (EltTy.packing .bf16) := by revert di j; decide
theorem wordsRc (di : Fin 2) (b : Fin 8) : (rRc di b).WholeWords (EltTy.packing .bf16) := by revert di b; decide
theorem packedW (b : Fin 8) : (rW b).PackedRows (EltTy.packing .fp8e5m2) := by revert b; decide

/-! ## The buffers, slots and semaphores -/

abbrev xM : Memref sig .tc .hbm S4096x1024 .f32 := Memref.whole main_arg0
abbrev wM : Memref sig .tc .hbm S1024x8192 .f32 := Memref.whole main_arg1
abbrev oM : Memref sig .tc .hbm S1024x8192 .f32 := Memref.whole main_v5
abbrev x8M : Memref sig .tc .vmem S4096x1024 .fp8e5m2 := Memref.whole cc0_scratch0
abbrev xsM : Memref sig .tc .vmem S2x1024x1024 .f32 := Memref.whole cc0_scratch1
abbrev w8M : Memref sig .tc .vmem S1024x8192 .fp8e5m2 := Memref.whole cc0_scratch2
abbrev wsM : Memref sig .tc .vmem S2x1024x1024 .f32 := Memref.whole cc0_scratch3
abbrev sdM : Memref sig .tc .vmem S2x4x1024x512 .bf16 := Memref.whole cc0_scratch4
abbrev rcM : Memref sig .tc .vmem S2x8x1024x512 .bf16 := Memref.whole cc0_scratch5
abbrev stM : Memref sig .tc .vmem S1024x1024 .f32 := Memref.whole cc0_scratch6

/-- A chunk of `x` in memory, the staging slot it lands in; a column block of `w` and its slot; a column block of the result. -/
abbrev xC (o : Fin 2 → ℕ) (h : ∀ a, o a + S1024x1024.size a ≤ S4096x1024.size a) : Memref sig .tc .hbm S1024x1024 .f32 :=
  xM.slice (rC o h) (fun _ => rfl)
abbrev xS (k : Fin 2) : Memref sig .tc .vmem S1024x1024 .f32 :=
  (xsM.slice (rX k) (fun _ => rfl)).squeeze S1024x1024 squeezes_S1x1024x1024_S1024x1024
abbrev wC (b : Fin 8) : Memref sig .tc .hbm S1024x1024 .f32 := wM.slice (rW b) (fun _ => rfl)
abbrev wS (k : Fin 2) : Memref sig .tc .vmem S1024x1024 .f32 :=
  (wsM.slice (rX k) (fun _ => rfl)).squeeze S1024x1024 squeezes_S1x1024x1024_S1024x1024
abbrev oC (b : Fin 8) : Memref sig .tc .hbm S1024x1024 .f32 := oM.slice (rW b) (fun _ => rfl)
/-- The send slot `j` and the landing slot `b` of direction `di`. -/
abbrev sdS (di : Fin 2) (j : Fin 4) : Memref sig .tc .vmem S1024x512 .bf16 :=
  (sdM.slice (rSd di j) (fun _ => rfl)).squeeze S1024x512 squeezes_S1x1x1024x512_S1024x512
abbrev rcS (di : Fin 2) (b : Fin 8) : Memref sig .tc .vmem S1024x512 .bf16 :=
  (rcM.slice (rRc di b) (fun _ => rfl)).squeeze S1024x512 squeezes_S1x1x1024x512_S1024x512

abbrev xsem (k : Fin 2) : DmaSem sig :=
  ((cc0_scratch7.slice (Rect.unit (s := S2) ![k.val] S1.size (inbS2 k))).squeeze S_ squeezes_S1_S_ : DmaSems sig S_).sem
abbrev wsem (k : Fin 2) : DmaSem sig :=
  ((cc0_scratch8.slice (Rect.unit (s := S2) ![k.val] S1.size (inbS2 k))).squeeze S_ squeezes_S1_S_ : DmaSems sig S_).sem
abbrev ssem (di : Fin 2) (j : Fin 4) : DmaSem sig :=
  ((cc0_scratch9.slice (Rect.unit (s := S2x4) ![di.val, j.val] S1x1.size (inbS24 di j))).squeeze S_ squeezes_S1x1_S_ : DmaSems sig S_).sem
abbrev rsem (di : Fin 2) (b : Fin 8) : DmaSem sig :=
  ((cc0_scratch10.slice (Rect.unit (s := S2x8) ![di.val, b.val] S1x1.size (inbS28 di b))).squeeze S_ squeezes_S1x1_S_ : DmaSems sig S_).sem
abbrev csem : DmaSem sig := (cc0_scratch11 : DmaSems sig S_).sem
/-- The credit semaphore of a direction. -/
def credSem (di : Fin 2) : Sem sig := match di with
  | 0 => (cc0_scratch12 : Sems sig S_).sem
  | 1 => (cc0_scratch13 : Sems sig S_).sem
abbrev barS : Sem sig := (SemArray.scalar (sig.barrier 0 rfl) : Sems sig S_).sem

/-- The device before and the device after, as the kernel computes them. -/
abbrev lf (c : Dev nD) : Dev nD := ⟨k0_dev1 c, k0_dev1_lt c⟩
abbrev rt (c : Dev nD) : Dev nD := ⟨k0_dev2 c, k0_dev2_lt c⟩
/-- Where direction `di` sends, and where its messages come from. -/
def dstD (c : Dev nD) (di : Fin 2) : Dev nD := match di with | 0 => rt c | 1 => lf c
def upD (c : Dev nD) (di : Fin 2) : Dev nD := match di with | 0 => lf c | 1 => rt c

/-- The send slot of a column block, and the block whose message used the slot before. -/
abbrev slotOf (b : Fin 8) : Fin 4 := ⟨b.val % 4, Nat.mod_lt _ (by decide)⟩
abbrev prevOf (b : Fin 8) : Fin 8 := ⟨(b.val + 4) % 8, Nat.mod_lt _ (by decide)⟩
abbrev par (b : Fin 8) : Fin 2 := ⟨b.val % 2, Nat.mod_lt _ (by decide)⟩

/-! ## The fragments -/

section
variable (o : Fin 2 → ℕ) (h : ∀ a, o a + S1024x1024.size a ≤ S4096x1024.size a)

/-- Start fetching a chunk of `x` into a staging slot. -/
def xFetch (k : Fin 2) : Pg F PUnit :=
  Prog.lift (.enqueueDma (xC o h) (.here (xS k)) (.dma (xsem k)) (View.wordExact_bits rfl) ((View.wordExact_bits rfl).reshape _ _) ⟨Or.inl rfl, trivial⟩)

/-- Wait for the chunk, cast it into its rows of the cast `x`. -/
def xCast (o' : Fin 2 → ℕ) (h' : ∀ a, o' a + S1024x1024.size a ≤ S4096x1024.size a)
    (hp : (rC o' h').PackedRows (EltTy.packing .fp8e5m2)) (k : Fin 2) : Pg F PUnit := do
  Prog.lift (.waitDma2 (xsem k) (xC o h) (xS k) (View.wordExact_bits rfl) ((View.wordExact_bits rfl).reshape _ _))
  let v : Vec F S1x1024x1024 .f32 ← Prog.lift (.load xsM (rX k).toLoadRect (View.loadsAt_vmem h_S1x1024x1024))
  let _u : Vec F S1024x1024 .fp8e5m2 ← Prog.lift (.load x8M (rC o' h').toLoadRect (View.loadsAt_vmem h_S1024x1024))
  Prog.lift (.store x8M (rC o' h') (k0_pay1 v) Finset.univ
    (View.stores_vmem h_S1024x1024 ((Memref.isWhole_whole cc0_scratch0).storeExact_slice rfl _ hp) (fun _ => rfl)) (.inl rfl))

/-- A half product: a chunk of the cast `x` with a half column block of the cast `w`. -/
def partOf (b : Fin 8) (di : Fin 2) : Pg F (FVec F S1024x512 .f32) := do
  let v : Vec F S1024x1024 .fp8e5m2 ← Prog.lift (.load x8M (rC o h).toLoadRect (View.loadsAt_vmem h_S1024x1024))
  let u : Vec F S1024x512 .fp8e5m2 ← Prog.lift (.load w8M (rH b di).toLoadRect (View.loadsAt_vmem h_S1024x512))
  pure (k0_pay30 v u)
end

/-- Start fetching a column block of `w`. -/
def wFetch (b : Fin 8) : Pg F PUnit :=
  Prog.lift (.enqueueDma (wC b) (.here (wS (par b))) (.dma (wsem (par b))) (View.wordExact_bits rfl) ((View.wordExact_bits rfl).reshape _ _) ⟨Or.inl rfl, trivial⟩)

/-- Wait for it and cast it into its columns. -/
def wCast (b : Fin 8) : Pg F PUnit := do
  Prog.lift (.waitDma2 (wsem (par b)) (wC b) (wS (par b)) (View.wordExact_bits rfl) ((View.wordExact_bits rfl).reshape _ _))
  let v : Vec F S1x1024x1024 .f32 ← Prog.lift (.load wsM (rX (par b)).toLoadRect (View.loadsAt_vmem h_S1x1024x1024))
  let _u : Vec F S1024x1024 .fp8e5m2 ← Prog.lift (.load w8M (rW b).toLoadRect (View.loadsAt_vmem h_S1024x1024))
  Prog.lift (.store w8M (rW b) (k0_pay3 v) Finset.univ
    (View.stores_vmem h_S1024x1024 ((Memref.isWhole_whole cc0_scratch2).storeExact_slice rfl _ (packedW b)) (fun _ => rfl)) (.inl rfl))

/-- Wait until the message of block `b'` has left send slot `j`. -/
def waitSend (di : Fin 2) (j : Fin 4) (b' : Fin 8) : Pg F PUnit :=
  Prog.lift (.waitDma2 (ssem di j) (rcS di b') (sdS di j)
    (((Memref.isWhole_whole cc0_scratch5).wordExact_slice rfl _ (wordsRc di b')).reshape _ _)
    (((Memref.isWhole_whole cc0_scratch4).wordExact_slice rfl _ (wordsSd di j)).reshape _ _))

/-- Wait for the message of block `b`, and read it. -/
def waitRecv (di : Fin 2) (b : Fin 8) : Pg F (Vec F S1x1x1024x512 .bf16) := do
  Prog.lift (.waitDma2 (rsem di b) (sdS di (slotOf b)) (rcS di b)
    (((Memref.isWhole_whole cc0_scratch4).wordExact_slice rfl _ (wordsSd di (slotOf b))).reshape _ _)
    (((Memref.isWhole_whole cc0_scratch5).wordExact_slice rfl _ (wordsRc di b)).reshape _ _))
  Prog.lift (.load rcM (rRc di b).toLoadRect (View.loadsAt_vmem h_S1x1x1024x512))

/-- Put a message in send slot `j`. -/
def putSend (di : Fin 2) (j : Fin 4) (v : FVec F S1x1x1024x512 .bf16) : Pg F PUnit := do
  let _u : Vec F S1x1x1024x512 .bf16 ← Prog.lift (.load sdM (rSd di j).toLoadRect (View.loadsAt_vmem h_S1x1x1024x512))
  Prog.lift (.store sdM (rSd di j) v Finset.univ
    (View.stores_vmem h_S1x1x1024x512 ((Memref.isWhole_whole cc0_scratch4).storeExact_slice rfl _ (packedSd di j)) (fun _ => rfl)) (.inl rfl))

/-- Start sending it. -/
def send (c : Dev nD) (di : Fin 2) (b : Fin 8) : Pg F PUnit :=
  Prog.lift (.enqueueDma (sdS di (slotOf b)) (.remote (Dev.tc (dstD c di)) (rcS di b) (.dma (ssem di (slotOf b)))) (.dma (rsem di b))
    (((Memref.isWhole_whole cc0_scratch4).wordExact_slice rfl _ (wordsSd di (slotOf b))).reshape _ _)
    (((Memref.isWhole_whole cc0_scratch5).wordExact_slice rfl _ (wordsRc di b)).reshape _ _) ⟨⟨rfl, Or.inl rfl⟩, trivial⟩)

/-- A seed step's half: the slot free again (from block 4 on), the half product as the message, sent. -/
def seedHalf (c : Dev nD) (o : Fin 2 → ℕ) (h : ∀ a, o a + S1024x1024.size a ≤ S4096x1024.size a) (b : Fin 8) (di : Fin 2) : Pg F PUnit := do
  (if 4 ≤ b.val then waitSend di (slotOf b) (prevOf b) else pure ⟨⟩)
  let v : Vec F S1024x1024 .fp8e5m2 ← Prog.lift (.load x8M (rC o h).toLoadRect (View.loadsAt_vmem h_S1024x1024))
  let u : Vec F S1024x512 .fp8e5m2 ← Prog.lift (.load w8M (rH b di).toLoadRect (View.loadsAt_vmem h_S1024x512))
  putSend di (slotOf b) (k0_pay4 v u)
  send c di b

/-- A seed step: the column block of `w` cast, the next but one fetched, both halves sent. -/
def seedStep (c : Dev nD) (b : Fin 8) : Pg F PUnit := do
  wCast b
  (if hb : b.val + 2 < 8 then wFetch ⟨b.val + 2, hb⟩ else pure ⟨⟩)
  seedHalf c (k0_off2 c 3#32) (k0_off2_inb c 0) b 0
  seedHalf c (k0_off2 c 1#32) (k0_off2_inb c 1) b 1

/-- A ring step's half: the message taken, the partial sum in the send slot, the landing slot handed back, credit, sent. -/
def ringHalf (c : Dev nD) (b : Fin 8) (di : Fin 2) (p : FVec F S1024x512 .f32) : Pg F PUnit := do
  let r ← waitRecv di b
  waitSend di (slotOf b) (prevOf b)
  putSend di (slotOf b) (k0_pay32 p r)
  semSignalWord (upD c di) (credSem di) 1#32
  semWaitWord (credSem di) 1#32
  send c di b

def ringStep (c : Dev nD) (o₀ : Fin 2 → ℕ) (h₀ : ∀ a, o₀ a + S1024x1024.size a ≤ S4096x1024.size a)
    (o₁ : Fin 2 → ℕ) (h₁ : ∀ a, o₁ a + S1024x1024.size a ≤ S4096x1024.size a) (b : Fin 8) : Pg F PUnit := do
  let p₀ ← partOf o₀ h₀ b 0
  let p₁ ← partOf o₁ h₁ b 1
  ringHalf c b 0 p₀
  ringHalf c b 1 p₁

/-- Wait for the previous result copy, of block `b`. -/
def waitCopy (b : Fin 8) : Pg F PUnit :=
  Prog.lift (.waitDma2 csem stM (oC b) (Memref.isWhole_whole cc0_scratch6).wordExact (View.wordExact_bits rfl))

def putHalf (di : Fin 2) (v : FVec F S1024x512 .f32) : Pg F PUnit := do
  let _u : Vec F S1024x512 .f32 ← Prog.lift (.load stM (rG di).toLoadRect (View.loadsAt_vmem h_S1024x512))
  Prog.lift (.store stM (rG di) v Finset.univ (View.stores_vmem_bits_univ h_S1024x512 rfl) (.inl rfl))

def lastStep (c : Dev nD) (g : Elt F .f32) (b : Fin 8) : Pg F PUnit := do
  let p₀ ← partOf (k0_off5 c) (k0_off5_inb c) b 0
  let p₁ ← partOf (k0_off5 c) (k0_off5_inb c) b 1
  let r₀ ← waitRecv 0 b
  let r₁ ← waitRecv 1 b
  (if hb : 0 < b.val then waitCopy ⟨b.val - 1, Nat.lt_of_le_of_lt (Nat.sub_le _ _) b.isLt⟩ else pure ⟨⟩)
  putHalf 0 (k0_pay108 g p₀ r₀)
  putHalf 1 (k0_pay108 g p₁ r₁)
  Prog.lift (.enqueueDma stM (.here (oC b)) (.dma csem) (Memref.isWhole_whole cc0_scratch6).wordExact (View.wordExact_bits rfl) ⟨Or.inl rfl, trivial⟩)

def opening (c : Dev nD) : Pg F PUnit := do
  xFetch (k0_off1 c 3#32) (k0_off1_inb c 2) 0
  xFetch (k0_off1 c 1#32) (k0_off1_inb c 0) 1
  wFetch 0
  wFetch 1
  semSignalWord (lf c) barS 1#32
  semSignalWord (rt c) barS 1#32
  semWaitWord barS 2#32
  xCast (k0_off1 c 3#32) (k0_off1_inb c 2) (k0_off2 c 3#32) (k0_off2_inb c 0) (k0_off2_packedfp8e5m2 c 0) 0
  xCast (k0_off1 c 1#32) (k0_off1_inb c 0) (k0_off2 c 1#32) (k0_off2_inb c 1) (k0_off2_packedfp8e5m2 c 1) 1
  xFetch (k0_off1 c 2#32) (k0_off1_inb c 1) 0
  xFetch (k0_off3 c) (k0_off3_inb c) 1

def closing : Pg F PUnit := do
  waitCopy 7
  waitSend 0 0 4
  waitSend 0 1 5
  waitSend 0 2 6
  waitSend 0 3 7
  waitSend 1 0 4
  waitSend 1 1 5
  waitSend 1 2 6
  waitSend 1 3 7

/-- A step per column block, in order. -/
def blocks (f : Fin 8 → Pg F PUnit) (k : Pg F PUnit) : Pg F PUnit := do
  f 0; f 1; f 2; f 3; f 4; f 5; f 6; f 7; k

/-- The whole body. -/
def bodyOf (arg0 : Memref sig .tc .smem S1x1 .f32) : Pg F PUnit := do
  let c : Dev nD ← Prog.lift .deviceId
  let g : Elt F .f32 ← smemLoad arg0 (Rect.unit (s := S1x1) ![0, 0] S1x1.size inb_S1x1_S1x1_0_0) numel1_S1x1 rfl
  opening c
  blocks (seedStep c) do
  xCast (k0_off1 c 2#32) (k0_off1_inb c 1) (k0_off2 c 2#32) (k0_off2_inb c 2) (k0_off2_packedfp8e5m2 c 2) 0
  blocks (ringStep c (k0_off2 c 6#32) (k0_off2_inb c 3) (k0_off4 c 1#32) (k0_off4_inb c 0)) do
  blocks (ringStep c (k0_off2 c 5#32) (k0_off2_inb c 4) (k0_off4 c 2#32) (k0_off4_inb c 1)) do
  xCast (k0_off3 c) (k0_off3_inb c) (k0_off5 c) (k0_off5_inb c) (k0_off5_packedfp8e5m2 c) 1
  blocks (lastStep c g) do
  closing

set_option maxRecDepth 100000 in
theorem body_eq (arg0 : Memref sig .tc .smem S1x1 .f32) (harg0 : arg0.IsWhole) :
    cc0_body (F := F) arg0 harg0 (Memref.whole main_arg0) (Memref.isWhole_whole _) (Memref.whole main_arg1) (Memref.isWhole_whole _) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13
      = bodyOf arg0 := by
  chain_rfl

end Cert.RingProof

end
-- ==== Proof.Cells.lean ====
/-
  The protocol of the kernel: its memory pieces, its contents, its semaphore cells and what every landing on them carries.

  Two rings of messages run around the four devices, direction 0 to the right and direction 1 to the left; message `(s, b)` of a
  direction (`s < 3`, `b < 8`) lands in landing slot `b`. A device may send `(s, b)` once the receiver has released the slot `s + 1`
  times; that it has reaches the sender through the barrier (`s = 0`) and through the credit semaphore of the direction.
-/
module

public import proofs.«01_k».proof.Proof.Frags
public import proofs.«01_k».proof.Proof.Gen.KernelIdeal.Frame
public import Idealize.ShloMosaic.Lib.Rounds
public import Idealize.ShloMosaic.Lib.Release
public import Idealize.ShloMosaic.Lib.Pipeline.RegionTalk

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the rounds of the protocol, the releases of the landing slots -/

/-- A landing slot: its device, its direction, its block. -/
abbrev Key : Type := Dev nD × Fin 2 × Fin 8
abbrev UU : Type := UR sig nD τ × (URounds (GSem nD τ sig) ℕ × Release.USlots Key)
abbrev MM (F : FTy → Type) : Type := MT nD τ sig ℕ (Elt F) ℕ UU ℕ

abbrev EP : Emb (UR sig nD τ) (MM F) := embL
abbrev ER : Emb (URounds (GSem nD τ sig) ℕ) (MM F) := (Emb.inl).trans embR
abbrev ES : Emb (Release.USlots Key) (MM F) := (Emb.inr).trans embR

variable (m : (ℓ : Loc nD τ sig) → Buf (Elt F) ℓ)

/-! ## The ring -/

theorem lf_eq (c : Dev nD) : lf c = c + 3 := by revert c; decide
theorem rt_eq (c : Dev nD) : rt c = c + 1 := by revert c; decide
theorem dst_up (c : Dev nD) (di : Fin 2) : dstD (upD c di) di = c := by revert c di; decide
theorem up_dst (c : Dev nD) (di : Fin 2) : upD (dstD c di) di = c := by revert c di; decide

/-- The chunk of `x` a device multiplies for ring step `s` of a direction. -/
def chD (c : Dev nD) (di : Fin 2) : ℕ → Fin 4
  | 0 => if di = 0 then c + 3 else c + 1
  | 1 => c + 2
  | 2 => if di = 0 then c + 1 else c + 3
  | _ => c

/-- The rows of chunk `q`. -/
theorem inbRow (q : Fin 4) : ∀ a, (![q.val * 1024, 0] : Fin 2 → ℕ) a + S1024x1024.size a ≤ S4096x1024.size a := by revert q; decide
abbrev rRow (q : Fin 4) : Rect S4096x1024 := rC ![q.val * 1024, 0] (inbRow q)
theorem packedRow (q : Fin 4) : (rRow q).PackedRows (EltTy.packing .fp8e5m2) := by revert q; decide

/-! ## Contents -/

/-- Device `c`'s `x` and `w` as launched, the two scales' product, and both casts. -/
abbrev XA (c : Dev nD) : FVec F S4096x1024 .f32 := V m c main_arg0
abbrev WA (c : Dev nD) : FVec F S1024x8192 .f32 := V m c main_arg1
abbrev GA (c : Dev nD) : FVec F S1x1 .f32 := V m c main_v4
def gs (c : Dev nD) : Elt F .f32 := GA m c (fun a => ⟨0, by revert a; decide⟩)
def X8 (c : Dev nD) : FVec F S4096x1024 .fp8e5m2 := truncf .fp8e5m2 (XA m c) bitsLt_fp8e5m2_f32
def W8 (c : Dev nD) : FVec F S1024x8192 .fp8e5m2 := truncf .fp8e5m2 (WA m c) bitsLt_fp8e5m2_f32

/-- A chunk of the cast `x`; a half column block of the cast `w`; their product. -/
def xch (c : Dev nD) (q : Fin 4) : Vec F S1024x1024 .fp8e5m2 := (x8M.access (rRow q)).read (Elt F) (X8 m c)
def wh (c : Dev nD) (b : Fin 8) (di : Fin 2) : Vec F S1024x512 .fp8e5m2 := (w8M.access (rH b di)).read (Elt F) (W8 m c)
def prt (c : Dev nD) (q : Fin 4) (b : Fin 8) (di : Fin 2) : FVec F S1024x512 .f32 := k0_pay30 (xch m c q) (wh m c b di)

/-- Message `(s, b)` that device `c` sends in direction `di`. -/
def sent (di : Fin 2) (b : Fin 8) : ℕ → Dev nD → FVec F S1x1x1024x512 .bf16
  | 0, c => k0_pay4 (xch m c (chD c di 0)) (wh m c b di)
  | s + 1, c => k0_pay32 (prt m c (chD c di (s + 1)) b di) (sent di b s (upD c di))

/-- The half column block `b`, `di` of the result. -/
def resH (c : Dev nD) (b : Fin 8) (di : Fin 2) : FVec F S1024x512 .f32 :=
  k0_pay108 (gs m c) (prt m c c b di) (sent m di b 2 (upD c di))

def idxH (i : S1024x8192.Idx) : S1024x512.Idx := fun a =>
  ⟨(![(i 0).val, (i 1).val % 512] : Fin 2 → ℕ) a, by
    revert a; rw [Fin.forall_fin_two]
    exact ⟨(i 0).isLt, Nat.mod_lt _ (by decide)⟩⟩
def blkOf (i : S1024x8192.Idx) : Fin 8 := ⟨(i 1).val / 1024, by
  have h : (i 1).val < 8192 := (i 1).isLt
  omega⟩
def halfOf (i : S1024x8192.Idx) : Fin 2 := ⟨(i 1).val % 1024 / 512, by omega⟩

/-- The whole result of device `c`. -/
def OUT (c : Dev nD) : FVec F S1024x8192 .f32 := fun i => resH m c (blkOf i) (halfOf i) (idxH i)

/-! ## Memory pieces -/

section Pieces
variable (c : Dev nD)

/-- A piece of a buffer seen through a view, at contents `f`. -/
abbrev at_ {sp : Space} {s : Shape} {e : EltTy} (M : Memref sig .tc sp s e) (f : Buf (Elt F) (M.view.loc (c : Thread nD τ))) : sProp (MM F) :=
  M.view.loc (c : Thread nD τ) ↦[M.view.set]{fullShare} f
/-- The same at contents not chosen, and at contents that read `v`. -/
abbrev any_ {sp : Space} {s : Shape} {e : EltTy} (M : Memref sig .tc sp s e) : sProp (MM F) :=
  Release.slot (M.view.loc (c : Thread nD τ)) M.view.set
def has_ {sp : Space} {s : Shape} {e : EltTy} (M : Memref sig .tc sp s e) (v : s.Idx → Elt F e) : sProp (MM F) :=
  iprop(∃ f, at_ c M f ∗ ⌜M.view.read (Elt F) f = v⌝)

abbrev xR (q : Fin 4) : Memref sig .tc .hbm S1024x1024 .f32 := xC ![q.val * 1024, 0] (inbRow q)
abbrev x8R (q : Fin 4) : Memref sig .tc .vmem S1024x1024 .fp8e5m2 := x8M.slice (rRow q) (fun _ => rfl)
abbrev w8R (b : Fin 8) : Memref sig .tc .vmem S1024x1024 .fp8e5m2 := w8M.slice (rW b) (fun _ => rfl)
/-- A landing slot before its unit axes go. -/
abbrev rc4 (di : Fin 2) (b : Fin 8) : Memref sig .tc .vmem S1x1x1024x512 .bf16 := rcM.slice (rRc di b) (fun _ => rfl)
abbrev sd4 (di : Fin 2) (j : Fin 4) : Memref sig .tc .vmem S1x1x1024x512 .bf16 := sdM.slice (rSd di j) (fun _ => rfl)

end Pieces

/-! ## Cells -/

inductive Kd where
  | bar | credit (di : Fin 2) | xd (k : Fin 2) | wd (k : Fin 2) | send (di : Fin 2) (j : Fin 4) | recv (di : Fin 2) (b : Fin 8) | copy | none
  deriving DecidableEq

instance : Fintype Kd where
  elems := {.bar, .copy, .none} ∪ Finset.univ.image Kd.credit ∪ Finset.univ.image Kd.xd ∪ Finset.univ.image Kd.wd
    ∪ Finset.univ.image (fun p : Fin 2 × Fin 4 => Kd.send p.1 p.2) ∪ Finset.univ.image (fun p : Fin 2 × Fin 8 => Kd.recv p.1 p.2)
  complete k := by cases k <;> simp

/-- What a semaphore is for. -/
def kd : SemLoc sig → Kd
  | .reg s => if s = barS then .bar else if s = credSem 0 then .credit 0 else if s = credSem 1 then .credit 1 else .none
  | .dma d =>
    if d.val = 0 then .none
    else if d.val < 3 then .xd ⟨(d.val - 1) % 2, Nat.mod_lt _ (by decide)⟩
    else if d.val < 5 then .wd ⟨(d.val - 3) % 2, Nat.mod_lt _ (by decide)⟩
    else if d.val < 13 then .send ⟨(d.val - 5) / 4 % 2, Nat.mod_lt _ (by decide)⟩ ⟨(d.val - 5) % 4, Nat.mod_lt _ (by decide)⟩
    else if d.val < 29 then .recv ⟨(d.val - 13) / 8 % 2, Nat.mod_lt _ (by decide)⟩ ⟨(d.val - 13) % 8, Nat.mod_lt _ (by decide)⟩
    else .copy

/-- The semaphore of a purpose. -/
def sm : Kd → SemLoc sig
  | .bar => .reg barS
  | .credit di => .reg (credSem di)
  | .xd k => .dma (xsem k)
  | .wd k => .dma (wsem k)
  | .send di j => .dma (ssem di j)
  | .recv di b => .dma (rsem di b)
  | .copy | .none => .dma csem

theorem kd_credit (di : Fin 2) : kd (sm (.credit di)) = .credit di := by revert di; decide
theorem kd_xd (k : Fin 2) : kd (sm (.xd k)) = .xd k := by revert k; decide
theorem kd_wd (k : Fin 2) : kd (sm (.wd k)) = .wd k := by revert k; decide
theorem kd_send (di : Fin 2) (j : Fin 4) : kd (sm (.send di j)) = .send di j := by revert di j; decide
theorem kd_recv (di : Fin 2) (b : Fin 8) : kd (sm (.recv di b)) = .recv di b := by revert di b; decide
theorem kd_sm (k : Kd) (h : k ≠ .none) : kd (sm k) = k := by
  cases k with
  | bar => decide
  | credit di => exact kd_credit di
  | xd k => exact kd_xd k
  | wd k => exact kd_wd k
  | send di j => exact kd_send di j
  | recv di b => exact kd_recv di b
  | copy => decide
  | none => exact absurd rfl h

/-- The cell of a purpose on a device. -/
abbrev cell (c : Dev nD) (k : Kd) : GSem nD τ sig := ((c : Thread nD τ), sm k)

/-! ## The schedule -/

/-- The units a message carries, and a local copy. -/
def NB : ℕ := (rcS 0 0).view.amount (.dma csem)
def NL : ℕ := (xS 0).view.amount (.dma csem)
theorem amount_rcS (di : Fin 2) (b : Fin 8) (s : DmaSem sig) : (rcS di b).view.amount (.dma s) = NB := rfl
theorem amount_sdS (di : Fin 2) (j : Fin 4) (s : DmaSem sig) : (sdS di j).view.amount (.dma s) = NB := rfl
theorem amount_xS (k : Fin 2) (s : DmaSem sig) : (xS k).view.amount (.dma s) = NL := rfl
theorem amount_wS (k : Fin 2) (s : DmaSem sig) : (wS k).view.amount (.dma s) = NL := rfl
theorem amount_oC (b : Fin 8) (s : DmaSem sig) : (oC b).view.amount (.dma s) = NL := rfl
theorem NB_pos : 0 < NB := View.amount_pos (rcS 0 0).view (.dma csem) (by decide +kernel)
theorem NL_pos : 0 < NL := View.amount_pos (xS 0).view (.dma csem) (by decide +kernel)

/-- How many rounds a cell has. -/
def rounds : Kd → ℕ
  | .bar | .credit _ => 1
  | .xd _ => 2 | .wd _ => 4 | .send _ _ => 6 | .recv _ _ => 3 | .copy => 8 | .none => 0

/-- The duties of each of them: two signals on the barrier, sixteen on a credit cell, one copy elsewhere. -/
def dset : Kd → Finset ℕ
  | .bar => Finset.range 2 | .credit _ => Finset.range 16 | _ => {0}

def amt : Kd → ℕ
  | .bar | .credit _ => 1
  | .send _ _ | .recv _ _ => NB
  | _ => NL

/-- The chunk that fetch `r` into staging slot `k` brings. -/
def xq (c : Dev nD) (k : Fin 2) (r : ℕ) : Fin 4 := if r = 0 then chD c k 0 else if k = 0 then c + 2 else c
/-- The column block that fetch `r` into staging slot `k` brings. -/
def wq (k : Fin 2) (r : ℕ) : Fin 8 := ⟨(2 * r + k.val) % 8, Nat.mod_lt _ (by decide)⟩
/-- Block number `r`. -/
def bq (r : ℕ) : Fin 8 := ⟨r % 8, Nat.mod_lt _ (by decide)⟩

/-- That device `c` may send message `n = 8 s + b` in direction `di`: the receiver has released the slot, and waits for it. -/
def permit (c : Dev nD) (di : Fin 2) (n : ℕ) : sProp (MM F) :=
  iprop(Release.released ES (dstD c di, di, bq n) (n / 8 + 1) ∗ reached ER (cell (dstD c di) (.recv di (bq n))) (n / 8))

instance permit_persistent (c : Dev nD) (di : Fin 2) (n : ℕ) : BI.Persistent (permit (F := F) c di n) := by unfold permit; infer_instance

/-- What lands on device `c` with duty `d` of round `r` of a cell. -/
def pay (c : Dev nD) : Kd → ℕ → ℕ → sProp (MM F)
  | .bar, _, d => iprop((bigSep (Finset.range 8) fun n => permit c (if d = 0 then 0 else 1) n)
      ∗ reached ER (cell (dstD c (if d = 0 then 0 else 1)) (.credit (if d = 0 then 1 else 0))) 0)
  | .credit di, _, d => bigSep (Finset.Ico 8 (9 + d)) fun n => permit c di n
  | .xd k, r, _ => iprop(at_ c (xR (xq c k r)) (XA m c) ∗ has_ c (xS k) ((xR (xq c k r)).view.read (Elt F) (XA m c)))
  | .wd k, r, _ => iprop(at_ c (wC (wq k r)) (WA m c) ∗ has_ c (wS k) ((wC (wq k r)).view.read (Elt F) (WA m c)))
  | .send di j, _, _ => any_ c (sdS di j)
  | .recv di b, r, _ => has_ c (rc4 di b) (sent m di b r (upD c di))
  | .copy, r, _ => iprop(any_ c stM ∗ at_ c (oC (bq r)) (OUT m c))
  | .none, _, _ => iprop(emp)

instance pay_storable (c : Dev nD) (k : Kd) (r d : ℕ) : BI.Storable (upEmb : UEmb _ (MM F)) (pay m c k r d) := by
  cases k <;> simp only [pay, permit, has_] <;> infer_instance

instance pay_credit_persistent (c : Dev nD) (di : Fin 2) (r d : ℕ) : BI.Persistent (pay m c (.credit di) r d) := by
  simp only [pay]; infer_instance
instance pay_bar_persistent (c : Dev nD) (r d : ℕ) : BI.Persistent (pay m c .bar r d) := by
  simp only [pay]; infer_instance

theorem amt_pos (k : Kd) : 0 < amt k := by cases k <;> first | exact Nat.one_pos | exact NB_pos | exact NL_pos

def Rd : Schedule (GSem nD τ sig) ℕ (MM F) where
  duties g r := if g.1.2 = .tc ∧ r < rounds (kd g.2) then dset (kd g.2) else ∅
  unitless _ := False
  amount g _ _ := amt (kd g.2)
  payload g r d := pay m g.1.1 (kd g.2) r d
  amount_pos g _ _ _ := amt_pos _

instance Rd_storable (g : GSem nD τ sig) (r d : ℕ) : BI.Storable (upEmb : UEmb _ (MM F)) ((Rd m).payload g r d) :=
  pay_storable m g.1.1 (kd g.2) r d

section Sched
variable (c : Dev nD) (k : Kd) (hk : k ≠ .none)
include hk

theorem duties_eq (r : ℕ) (hr : r < rounds k) : (Rd m).duties (cell c k) r = dset k := by
  show (if _ ∧ r < rounds (kd (sm k)) then dset (kd (sm k)) else ∅) = _
  rw [kd_sm k hk, if_pos ⟨rfl, hr⟩]
theorem duties_later (r : ℕ) (hr : rounds k ≤ r) : (Rd m).duties (cell c k) r = ∅ := by
  show (if _ ∧ r < rounds (kd (sm k)) then dset (kd (sm k)) else ∅) = _
  rw [kd_sm k hk, if_neg (fun h => absurd h.2 (by omega))]
theorem amount_eq (r d : ℕ) : (Rd m).amount (cell c k) r d = amt k := by
  show amt (kd (sm k)) = _; rw [kd_sm k hk]
theorem payload_eq (r d : ℕ) : (Rd m).payload (cell c k) r d = pay m c k r d := by
  show pay m c (kd (sm k)) r d = _; rw [kd_sm k hk]
theorem expect_eq (r : ℕ) (hr : r < rounds k) : (Rd m).expect (cell c k) r = (dset k).card * amt k := by
  unfold Schedule.expect Schedule.amountOf
  rw [duties_eq m c k hk r hr, Finset.sum_congr rfl fun d _ => amount_eq m c k hk r d, Finset.sum_const, smul_eq_mul]
/-- The rest of a round of one duty is its payload. -/
theorem rest_one (r : ℕ) (hr : r < rounds k) (h1 : dset k = {0}) :
    bigSep ((Rd m).duties (cell c k) r \ ∅) (fun d => (Rd m).payload (cell c k) r d) = pay m c k r 0 := by
  rw [Finset.sdiff_empty, duties_eq m c k hk r hr, h1, bigSep_singleton, payload_eq m c k hk]

end Sched

end Cert.RingProof

end
-- ==== Proof.Proto.lean ====
/-
  What a device still owes and the levels that order its waits; the pieces of its state; the rules for one wait, one message sent and
  one credit exchanged, each stated once for every device, direction, block and step.
-/
module

public import proofs.«01_k».proof.Proof.Cells
public import Idealize.SL.BI.BigOpNat
public import Idealize.SL.ProofMode.BigOp
public import Mathlib.Algebra.BigOperators.Intervals

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## Members of separating conjunctions -/

theorem big_mem {I : Type} [DecidableEq I] {s : Finset I} {i : I} {Φ : I → sProp (MM F)} (h : i ∈ s) : bigSep s Φ ⊢ Φ i := bigSep_elim h
theorem big_out {I : Type} [DecidableEq I] {s : Finset I} {i : I} {Φ : I → sProp (MM F)} (h : i ∈ s) : bigSep s Φ = iprop(Φ i ∗ bigSep (s.erase i) Φ) := bigSep_erase h

/-! ## Levels and debts -/

def L (g : GSem nD τ sig) : Finset ℕ := if g.1.2 = .tc then Finset.range 24 else ∅

def lvK : Kd → ℕ → ℕ
  | .bar, _ => 1
  | .credit di, n => 4 * n + 2 * di.val + 2
  | .recv di _, n => 4 * n + 2 * di.val + 3
  | _, _ => 0
def lv (g : GSem nD τ sig) (n : ℕ) : ℕ := lvK (kd g.2) n

theorem L_tc (c : Dev nD) (s : SemLoc sig) : L ((c : Thread nD τ), s) = Finset.range 24 := if_pos rfl
theorem L_of_ne (g : GSem nD τ sig) (h : g.1.2 ≠ .tc) : L g = ∅ := if_neg h
theorem lv_cell (c : Dev nD) (k : Kd) (hk : k ≠ .none) (n : ℕ) : lv (cell c k) n = lvK k n := by
  show lvK (kd (sm k)) n = _; rw [kd_sm k hk]

/-- Payment number `q = 4 n + 2 di + w`: the credit for message `n` of direction `di` (from `n = 8` on), and the message. -/
def item (c : Dev nD) (q : ℕ) : CellTallies nD τ sig ℕ :=
  if q % 2 = 0 then
    (if q / 4 < 8 then 0 else tallyAt (cell (upD c ⟨q / 2 % 2, Nat.mod_lt _ (by decide)⟩) (.credit ⟨q / 2 % 2, Nat.mod_lt _ (by decide)⟩)) (q / 4) 1)
  else tallyAt (cell (dstD c ⟨q / 2 % 2, Nat.mod_lt _ (by decide)⟩) (.recv ⟨q / 2 % 2, Nat.mod_lt _ (by decide)⟩ (bq (q / 4)))) (q / 4) NB

/-- What is still owed when payment `p` is next. -/
def owed (c : Dev nD) (p : ℕ) : CellTallies nD τ sig ℕ := ∑ q ∈ Finset.Ico p 96, item c q

theorem owed_step (c : Dev nD) (p : ℕ) (h : p < 96) : owed c p = owed c (p + 1) + item c p := by
  unfold owed; rw [Finset.sum_eq_sum_Ico_succ_bot h, add_comm]
theorem owed_last (c : Dev nD) : owed c 96 = 0 := by unfold owed; rw [Finset.Ico_self, Finset.sum_empty]

theorem half_eq (n : ℕ) (di : Fin 2) (w : ℕ) (hw : w < 2) :
    (⟨(4 * n + 2 * di.val + w) / 2 % 2, Nat.mod_lt _ (by decide)⟩ : Fin 2) = di := Fin.ext (by have := di.isLt; show _ % 2 = _; omega)

theorem item_send (c : Dev nD) (n : ℕ) (di : Fin 2) :
    item c (4 * n + 2 * di.val + 1) = tallyAt (cell (dstD c di) (.recv di (bq n))) n NB := by
  have h4 : (4 * n + 2 * di.val + 1) / 4 = n := by have := di.isLt; omega
  unfold item
  rw [if_neg (by omega), half_eq n di 1 (by decide), h4]
theorem item_seed (c : Dev nD) (n : ℕ) (di : Fin 2) (h : n < 8) : item c (4 * n + 2 * di.val) = 0 := by
  unfold item
  rw [if_pos (by omega), if_pos (by have := di.isLt; omega)]
theorem item_credit (c : Dev nD) (n : ℕ) (di : Fin 2) (h : 8 ≤ n) :
    item c (4 * n + 2 * di.val) = tallyAt (cell (upD c di) (.credit di)) n 1 := by
  have h4 : (4 * n + 2 * di.val) / 4 = n := by have := di.isLt; omega
  unfold item
  rw [if_pos (by omega), if_neg (by have := di.isLt; omega), show (⟨(4 * n + 2 * di.val) / 2 % 2, Nat.mod_lt _ (by decide)⟩ : Fin 2) = di from half_eq n di 0 (by decide), h4]

theorem tallyAt_pos {g g' : GSem nD τ sig} {i i' k : ℕ} (h : 0 < (tallyAt g i k : CellTallies nD τ sig ℕ) g' i') : g' = g ∧ i' = i := by
  rw [tallyAt_apply] at h
  by_contra hn
  rw [if_neg hn] at h; exact absurd h (Nat.lt_irrefl 0)

theorem item_pos {c : Dev nD} {q : ℕ} (hq : q < 96) {g : GSem nD τ sig} {i : ℕ} (h : 0 < item c q g i) :
    i ∈ L g ∧ q + 2 ≤ lv g i := by
  unfold item at h
  split at h
  · split at h
    · exact absurd h (Nat.lt_irrefl 0)
    · obtain ⟨rfl, rfl⟩ := tallyAt_pos h
      refine ⟨by rw [L_tc, Finset.mem_range]; omega, ?_⟩
      rw [lv_cell _ _ (by simp)]; simp only [lvK]; omega
  · obtain ⟨rfl, rfl⟩ := tallyAt_pos h
    refine ⟨by rw [L_tc, Finset.mem_range]; omega, ?_⟩
    rw [lv_cell _ _ (by simp)]; simp only [lvK]; omega

theorem owed_pos {c : Dev nD} {p : ℕ} {g : GSem nD τ sig} {i : ℕ} (h : 0 < owed c p g i) : i ∈ L g ∧ p + 2 ≤ lv g i := by
  unfold owed at h
  rw [Finset.sum_apply, Finsupp.finset_sum_apply] at h
  obtain ⟨q, hq, hp⟩ : ∃ q ∈ Finset.Ico p 96, 0 < item c q g i := by
    by_contra hn
    push Not at hn
    exact absurd h (by rw [Finset.sum_eq_zero fun q hq => Nat.le_zero.mp (hn q hq)]; exact Nat.lt_irrefl 0)
  rw [Finset.mem_Ico] at hq
  obtain ⟨h1, h2⟩ := item_pos hq.2 hp
  exact ⟨h1, by omega⟩

/-- A wait below level `p + 2` may be made while payment `p` and the later ones are owed. -/
theorem mayWait (c : Dev nD) (k : Kd) (hk : k ≠ .none) (i p : ℕ) (hi : i < 24) (hl : lvK k i ≤ p + 1) :
    (levAts L lv : sProp (MM F)) ⊢ MayWait (c : Thread nD τ) (sm k) i (owed c p) :=
  MayOwe.of_cut (L := L) (lev := lv) (p + 1)
    (fun x hx => by rw [Finset.mem_singleton.mp hx, L_tc]; exact Finset.mem_range.mpr hi)
    (fun g u hg => (owed_pos hg).1)
    (fun x hx => by rw [Finset.mem_singleton.mp hx]; exact (lv_cell c k hk i).trans_le hl)
    (fun g u hg => (owed_pos hg).2)

/-! ## What every device may consult: the invariants and the levels -/

def ctx (K : GSem nD τ sig → ℕ) (J : Key → ℕ) : sProp (MM F) :=
  iprop((bigSep Finset.univ fun ck : Dev nD × Kd => cellInv ER (Rd m) (K (cell ck.1 ck.2)) (cell ck.1 ck.2))
    ∗ (bigSep Finset.univ fun y : Key => Release.slotInv ES (J y) y (any_ y.1 (rcS y.2.1 y.2.2)))
    ∗ levAts L lv)

instance ctx_persistent (K : GSem nD τ sig → ℕ) (J : Key → ℕ) : BI.Persistent (ctx m K J) := by unfold ctx; infer_instance

section Ctx
variable (K : GSem nD τ sig → ℕ) (J : Key → ℕ)
theorem ctx_cell (c : Dev nD) (k : Kd) : ctx m K J ⊢ cellInv ER (Rd m) (K (cell c k)) (cell c k) := by
  unfold ctx
  iintro ⟨H, -, -⟩
  iapply (big_mem (Φ := fun ck : Dev nD × Kd => cellInv ER (Rd m) (K (cell ck.1 ck.2)) (cell ck.1 ck.2)) (Finset.mem_univ (c, k)))
  iexact H
theorem ctx_slot (y : Key) : ctx m K J ⊢ Release.slotInv ES (J y) y (any_ y.1 (rcS y.2.1 y.2.2)) := by
  unfold ctx
  iintro ⟨-, H, -⟩
  iapply (big_mem (Φ := fun y : Key => Release.slotInv ES (J y) y (any_ y.1 (rcS y.2.1 y.2.2))) (Finset.mem_univ y))
  iexact H
theorem ctx_lev : ctx m K J ⊢ levAts L lv := by
  unfold ctx
  iintro ⟨-, -, H⟩; iexact H
end Ctx

abbrev 𝒱₀ : Variants := Variants.none

/-- A program of device `c` run to its end with `Kt`. -/
abbrev run {α : Type} (c : Dev nD) (p : Pg F α) (Kt : α → sProp (MM F)) : sProp (MM F) :=
  wp frame (wpE (defs₀ (F := F)) 𝒱₀ (c : Thread nD τ) none) Set.univ p Kt

/-- What device `c` owes when payment `p` is next, whatever waits are recorded. -/
def ow (c : Dev nD) (p : ℕ) : sProp (MM F) := iprop(∃ W, owes (c : Thread nD τ) (owed c p) W)

/-! ## One wait -/

/-- The wait for the one copy of round `r` of a cell: the copy's payload, the next round. -/
theorem wait_one (K : GSem nD τ sig → ℕ) (J : Key → ℕ) (c : Dev nD) (k : Kd) (r i p : ℕ) (hk : k ≠ .none) (h1 : dset k = {0}) (hr : r < rounds k)
    (hi : i < 24) (hl : lvK k i ≤ p + 1) {α : Type} {w : TpuEff nD τ sig (Elt F) Λ₀ .tc PUnit}
    (hw : ∀ Q : PUnit → sProp (MM F), wpE (defs₀ (F := F)) 𝒱₀ (c : Thread nD τ) none Set.univ w Q = waitSpec (c : Thread nD τ) Set.univ (sm k) (amt k) Q)
    (kt : PUnit → Pg F α) (Q : α → sProp (MM F)) :
    iprop(ctx m K J ∗ cred (tallyAt (cell c k) i (amt k)) ∗ ow c p ∗ atPos ER (cell c k) r ∅ 0)
      ⊢ iprop(((ow c p ∗ atPos ER (cell c k) (r + 1) ∅ 0 ∗ reached ER (cell c k) (r + 1) ∗ pay m c k r 0) -∗ run c (kt ⟨⟩) Q)
          -∗ run c (.op w kt) Q) := by
  unfold ow
  iintro ⟨#Hctx, Hc, ⟨%W, HO⟩, Hat⟩ Hk
  iapply (Rounds.wp_wait_rest_token 𝒱₀ ER (Rd m) (c : Thread nD τ) none (κ := K (cell c k)) hw (Set.mem_univ _) i (O := owed c p) (W := W)
      (R := r) (m := 0) (T := ∅) ((Nat.zero_add _).trans (by rw [expect_eq m c k hk r hr, h1, Finset.card_singleton, Nat.one_mul]))) $$ [Hc HO Hat]
  · isplitr; · iapply (ctx_cell m K J c k); iexact Hctx
    isplitl [Hc]; · iexact Hc
    isplitl [HO]; · iexact HO
    isplitr; · iapply (mayWait c k hk i p hi hl); iapply (ctx_lev m K J); iexact Hctx
    iexact Hat
  iintro ⟨HO, Hat, Hr, Hpay⟩
  ihave Hp := (Entails.of_eq (rest_one m c k hk r hr h1)) $$ Hpay
  iapply Hk
  isplitl [HO]; · iexists _; iexact HO
  isplitl [Hat]; · iexact Hat
  isplitl [Hr]; · iexact Hr
  iexact Hp

/-- The counter of a cell all of whose rounds are over comes back at zero. -/
theorem close_cell (K : GSem nD τ sig → ℕ) (J : Key → ℕ) (c : Dev nD) (k : Kd) (hk : k ≠ .none) :
    iprop(ctx m K J ∗ atPos ER (cell c k) (rounds k) ∅ 0) ⊢ (|={Set.univ}=> semVal (cell c k) 0 : sProp (MM F)) := by
  iintro ⟨#Hctx, Hat⟩
  iapply (Rounds.cell_close ER (Rd m) (κ := K (cell c k)) (Set.mem_univ _) id (fun r hr => duties_later m c k hk r hr))
  isplitr; · iapply (ctx_cell m K J c k); iexact Hctx
  iexact Hat

end Cert.RingProof

end
-- ==== Proof.Msg.lean ====
/-
  The messages of one direction: the state a device keeps for them, and the rules for sending message `n`, receiving message `r` and
  exchanging the credit for message `n`, each for every `n`.
-/
module

public import proofs.«01_k».proof.Proof.Proto
public import Idealize.ShloMosaic.Lib.ViewIndex
public import Idealize.ShloMosaic.Lib.Writes

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : GSem nD τ sig → ℕ) (J : Key → ℕ)

/-! ## Slots as four- and two-axis views -/

theorem set_rcS (di : Fin 2) (b : Fin 8) : (rcS di b).view.set = (rc4 di b).view.set := View.set_reshape _ _
theorem set_sdS (di : Fin 2) (j : Fin 4) : (sdS di j).view.set = (sd4 di j).view.set := View.set_reshape _ _

/-- A landing slot filled with the two-axis reading of a send slot reads, on its four axes, what the send slot does. -/
theorem msg_read (di : Fin 2) (b : Fin 8) (j : Fin 4) (fs : (sdS di j).view.ty.Contents (Elt F)) (fd : (rcS di b).view.ty.Contents (Elt F)) :
    (rc4 di b).view.read (Elt F) ((rcS di b).view.write (Elt F) fd ((sdS di j).view.read (Elt F) fs) Finset.univ) = (sd4 di j).view.read (Elt F) fs := by
  show (rc4 di b).view.read (Elt F) (((rc4 di b).view.reshape S1024x512 (squeezes_S1x1x1024x512_S1024x512).numel_eq).write (Elt F) fd
    (((sd4 di j).view.reshape S1024x512 (squeezes_S1x1x1024x512_S1024x512).numel_eq).read (Elt F) fs) Finset.univ) = _
  rw [View.write_reshape_univ, View.read_write_univ]
  funext x
  rw [View.read_apply, View.read_apply]
  simp only [View.emb_reshape, Function.Embedding.trans_apply, Equiv.toEmbedding_apply, Equiv.apply_symm_apply]

theorem any_elim {sp : Space} {s : Shape} {e : EltTy} (c : Dev nD) (M : Memref sig .tc sp s e) : (any_ c M : sProp (MM F)) ⊢ iprop(∃ f, at_ c M f) := .rfl
theorem any_intro {sp : Space} {s : Shape} {e : EltTy} (c : Dev nD) (M : Memref sig .tc sp s e) (f : Buf (Elt F) (M.view.loc (c : Thread nD τ))) :
    at_ c M f ⊢ (any_ c M : sProp (MM F)) := by
  unfold any_ Release.slot
  iintro H; iexists f; iexact H
theorem any_rc4 (c : Dev nD) (di : Fin 2) (b : Fin 8) : (any_ c (rcS di b) : sProp (MM F)) = any_ c (rc4 di b) :=
  congrArg (fun I => Release.slot ((rc4 di b).view.loc (c : Thread nD τ)) I) (set_rcS di b)
theorem any_sd4 (c : Dev nD) (di : Fin 2) (j : Fin 4) : (any_ c (sdS di j) : sProp (MM F)) = any_ c (sd4 di j) :=
  congrArg (fun I => Release.slot ((sd4 di j).view.loc (c : Thread nD τ)) I) (set_sdS di j)
theorem at_rc4 (c : Dev nD) (di : Fin 2) (b : Fin 8) (f : Buf (Elt F) ((rc4 di b).view.loc (c : Thread nD τ))) : (at_ c (rcS di b) f : sProp (MM F)) = at_ c (rc4 di b) f :=
  congrArg (fun I => pointsTo ((rc4 di b).view.loc (c : Thread nD τ)) I fullShare f) (set_rcS di b)
theorem at_sd4 (c : Dev nD) (di : Fin 2) (j : Fin 4) (f : Buf (Elt F) ((sd4 di j).view.loc (c : Thread nD τ))) : (at_ c (sdS di j) f : sProp (MM F)) = at_ c (sd4 di j) f :=
  congrArg (fun I => pointsTo ((sd4 di j).view.loc (c : Thread nD τ)) I fullShare f) (set_sdS di j)
theorem single_image (s : SemLoc sig) (n k : ℕ) : ((Finsupp.single n k : ℕ →₀ ℕ).support.image fun i => (s, i)) ⊆ {(s, n)} := fun x hx => by
  obtain ⟨i, hi, rfl⟩ := Finset.mem_image.mp hx
  rw [Finset.mem_singleton.mp (Finsupp.support_single_subset hi)]; exact Finset.mem_singleton_self _
theorem rc_excl (c : Dev nD) (di : Fin 2) (b : Fin 8) : iprop(any_ c (rcS di b) ∗ any_ c (rcS di b)) ⊢ (False : sProp (MM F)) := by
  rw [any_rc4]
  exact Release.slot_slot_false ⟨_, View.emb_mem_set (rc4 di b).view (fun a => ⟨0, by revert a; decide⟩)⟩

/-! ## State -/

/-- The send slot of message `n`. -/
abbrev jq (n : ℕ) : Fin 4 := slotOf (bq n)

/-- Landing slot `b` when `k` of its messages have been taken. -/
def recvSt (c : Dev nD) (di : Fin 2) (b : Fin 8) (k : ℕ) : sProp (MM F) :=
  iprop(atPos ER (cell c (.recv di b)) k ∅ 0 ∗ (if k < 3 then Release.readerAt ES (c, di, b) (k + 1) else any_ c (rcS di b)))
/-- Send slot `j` free, after `k` messages. -/
def sendFree (c : Dev nD) (di : Fin 2) (j : Fin 4) (k : ℕ) : sProp (MM F) :=
  iprop(atPos ER (cell c (.send di j)) k ∅ 0 ∗ reached ER (cell c (.send di j)) k ∗ any_ c (sdS di j))
/-- Send slot `j` when `k` messages have been started from it. -/
def sendSt (c : Dev nD) (di : Fin 2) (j : Fin 4) : ℕ → sProp (MM F)
  | 0 => sendFree c di j 0
  | k + 1 => iprop(atPos ER (cell c (.send di j)) k ∅ 0 ∗ cred (tallyAt (cell c (.send di j)) 0 NB))

/-- What sending message `n` needs, receiving it, and its credit. -/
def msgTok (c : Dev nD) (di : Fin 2) (n : ℕ) : sProp (MM F) :=
  iprop(dutyTok ER (cell (dstD c di) (.recv di (bq n))) (n / 8) 0 ∗ Release.writeTok ES (dstD c di, di, bq n) (n / 8 + 1)
    ∗ dutyTok ER (cell c (.send di (jq n))) (n / 4) 0)
def rcvTok (c : Dev nD) (di : Fin 2) (n : ℕ) : sProp (MM F) := cred (tallyAt (cell c (.recv di (bq n))) n NB)
def crdTok (c : Dev nD) (di : Fin 2) (n : ℕ) : sProp (MM F) :=
  iprop(dutyTok ER (cell (upD c di) (.credit di)) 0 (n - 8) ∗ cred (tallyAt (cell c (.credit di)) n 1))

/-- The credit cell when `i` credits have been taken: the duties known to be paid, and what they carried. -/
def crdSt (c : Dev nD) (di : Fin 2) (i : ℕ) : sProp (MM F) :=
  iprop(∃ S : Finset ℕ, ⌜S ⊆ Finset.range 16 ∧ i ≤ S.card⌝ ∗ atPos ER (cell c (.credit di)) 0 S i ∗ bigSep S fun d => pay m c (.credit di) 0 d)

def recvs (c : Dev nD) (di : Fin 2) (r : ℕ) : sProp (MM F) :=
  iprop((bigSep Finset.univ fun b : Fin 8 => recvSt c di b ((r + 7 - b.val) / 8)) ∗ bigSep (Finset.Ico r 24) (rcvTok c di))
def sends (c : Dev nD) (di : Fin 2) (n : ℕ) : sProp (MM F) :=
  iprop((bigSep Finset.univ fun j : Fin 4 => sendSt c di j ((n + 3 - j.val) / 4)) ∗ bigSep (Finset.Ico n 24) (msgTok c di))
def creds (c : Dev nD) (di : Fin 2) (n : ℕ) : sProp (MM F) :=
  iprop(bigSep (Finset.Ico n 24) (crdTok c di) ∗ crdSt m c di (n - 8) ∗ reached ER (cell (upD c di) (.credit di)) 0
    ∗ bigSep (Finset.Ico 8 n) (permit (upD c di) di))

/-! ## Taking a message -/

theorem recvs_take (c : Dev nD) (di : Fin 2) (r : ℕ) (hr : r < 24) :
    (recvs c di r : sProp (MM F)) ⊢ iprop(recvSt c di (bq r) (r / 8) ∗ rcvTok c di r ∗ (recvSt c di (bq r) (r / 8 + 1) -∗ recvs c di (r + 1))) := by
  unfold recvs
  rw [bigSep_Ico_succ_bot hr]
  have hu := bigSep_univ_update (M := MM F) (Φ := fun b : Fin 8 => recvSt c di b ((r + 7 - b.val) / 8))
    (Ψ := fun b : Fin 8 => recvSt c di b ((r + 1 + 7 - b.val) / 8)) (bq r) (fun b hb => by
      have h1 : b.val ≠ r % 8 := fun h => hb (Fin.ext h)
      have h2 : (r + 1 + 7 - b.val) / 8 = (r + 7 - b.val) / 8 := by have := b.isLt; omega
      show recvSt c di b ((r + 1 + 7 - b.val) / 8) = _
      rw [h2])
  have e1 : (r + 7 - (bq r).val) / 8 = r / 8 := by show (r + 7 - r % 8) / 8 = _; omega
  have e2 : (r + 1 + 7 - (bq r).val) / 8 = r / 8 + 1 := by show (r + 1 + 7 - r % 8) / 8 = _; omega
  simp only [e1, e2] at hu
  iintro ⟨H, Ht, Hrest⟩
  ihave H2 := hu $$ H
  icases H2 with ⟨H, Hk⟩
  isplitl [H]; · iexact H
  isplitl [Ht]; · iexact Ht
  iintro H
  isplitr [Hrest]
  · iapply Hk; iexact H
  iexact Hrest

/-- The wait for message `r` and its reading: the message as its sender made it. For the first sixteen the slot is free again and
    its owner has the permit for message `r + 8` to give. -/
theorem recv_spec (c : Dev nD) (di : Fin 2) (r p : ℕ) (b : Fin 8) (hb : b = bq r) (hr : r < 24) (hl : 4 * r + 2 * di.val + 3 ≤ p + 1)
    (Q : Vec F S1x1x1024x512 .bf16 → sProp (MM F)) :
    iprop(ctx m K J ∗ recvs c di r ∗ ow c p)
      ⊢ iprop(((recvs c di (r + 1) ∗ ow c p ∗ (if r < 16 then permit (upD c di) di (r + 8) else iprop(emp)))
            -∗ Q (sent m di b (r / 8) (upD c di)))
          -∗ run c (waitRecv di b) Q) := by
  subst hb
  unfold waitRecv
  iintro ⟨#Hctx, Hrs, HO⟩ HQ
  ihave H := (recvs_take c di r hr) $$ Hrs
  icases H with ⟨Hst, Hc, Hback⟩
  unfold recvSt rcvTok
  rw [if_pos (show r / 8 < 3 by omega)]
  icases Hst with ⟨Hat, Hrd⟩
  simp only [wp_bind, Prog.lift]
  iapply (wait_one m K J c (.recv di (bq r)) (r / 8) r p (by simp) rfl (show r / 8 < 3 by omega) hr hl
    (show ∀ Q : PUnit → sProp (MM F), _ = waitSpec (c : Thread nD τ) Set.univ (.dma (rsem di (bq r))) ((rcS di (bq r)).view.amount (.dma (rsem di (bq r)))) Q
      from wpE_waitDma2_eq 𝒱₀ (c : Thread nD τ) none Set.univ)) $$ [Hc HO Hat]
  · isplitr; · iexact Hctx
    isplitl [Hc]; · iexact Hc
    isplitl [HO] <;> iassumption
  iintro ⟨HO, Hat, #Hre, Hpay⟩
  simp only [wp_ret]
  imodintro
  simp only [pay, has_]
  icases Hpay with ⟨%f, Hm, %hf⟩
  iapply (wp_load_rect 𝒱₀ (c : Thread nD τ) none Set.univ (m := rcM) (r := rRc di (bq r)) subset_rfl) $$ Hm
  iintro Hm
  simp only [wp_ret]
  ihave Hany : any_ c (rcS di (bq r)) $$ [Hm]
  · rw [any_rc4]; iapply (any_intro c (rc4 di (bq r)) f); iexact Hm
  rw [show (rcM.access (rRc di (bq r))).read (Elt F) f = sent m di (bq r) (r / 8) (upD c di) from hf]
  have hlt : r / 8 < 3 := by omega
  by_cases h16 : r < 16
  · imod (Release.slot_release ES (Set.mem_univ (J (c, di, bq r))) (rc_excl c di (bq r)) (r / 8 + 1)) $$ [Hrd Hany] with ⟨Hrd, #Hrel⟩
    · isplitr; · iapply (ctx_slot m K J (c, di, bq r)); iexact Hctx
      isplitl [Hrd] <;> iassumption
    imodintro
    iapply HQ
    isplitl [Hback Hat Hrd]
    · iapply Hback
      rw [if_pos (show r / 8 + 1 < 3 by omega)]
      isplitl [Hat] <;> iassumption
    isplitl [HO]; · iexact HO
    rw [if_pos h16]
    unfold permit
    rw [dst_up, show bq (r + 8) = bq r from Fin.ext (by show (r + 8) % 8 = r % 8; omega), show (r + 8) / 8 = r / 8 + 1 by omega]
    isplitr; · iexact Hrel
    iexact Hre
  · imodintro
    iapply HQ
    isplitl [Hback Hat Hany]
    · iapply Hback
      rw [if_neg (show ¬ r / 8 + 1 < 3 by omega)]
      isplitl [Hat] <;> iassumption
    isplitl [HO]; · iexact HO
    rw [if_neg h16]
    iempintro

/-! ## Sending one -/

theorem sends_take (c : Dev nD) (di : Fin 2) (n : ℕ) (hn : n < 24) :
    (sends c di n : sProp (MM F)) ⊢ iprop(sendSt c di (jq n) (n / 4) ∗ msgTok c di n ∗ (sendSt c di (jq n) (n / 4 + 1) -∗ sends c di (n + 1))) := by
  unfold sends
  rw [bigSep_Ico_succ_bot hn]
  have hu := bigSep_univ_update (M := MM F) (Φ := fun j : Fin 4 => sendSt c di j ((n + 3 - j.val) / 4))
    (Ψ := fun j : Fin 4 => sendSt c di j ((n + 1 + 3 - j.val) / 4)) (jq n) (fun j hj => by
      have h1 : j.val ≠ n % 8 % 4 := fun h => hj (Fin.ext h)
      have h2 : (n + 1 + 3 - j.val) / 4 = (n + 3 - j.val) / 4 := by have := j.isLt; omega
      show sendSt c di j ((n + 1 + 3 - j.val) / 4) = _
      rw [h2])
  have e1 : (n + 3 - (jq n).val) / 4 = n / 4 := by show (n + 3 - n % 8 % 4) / 4 = _; omega
  have e2 : (n + 1 + 3 - (jq n).val) / 4 = n / 4 + 1 := by show (n + 1 + 3 - n % 8 % 4) / 4 = _; omega
  simp only [e1, e2] at hu
  iintro ⟨H, Ht, Hrest⟩
  ihave H2 := hu $$ H
  icases H2 with ⟨H, Hk⟩
  isplitl [H]; · iexact H
  isplitl [Ht]; · iexact Ht
  iintro H
  isplitr [Hrest]
  · iapply Hk; iexact H
  iexact Hrest

/-- The wait until a message has left its slot. -/
theorem wait_send_spec (c : Dev nD) (di : Fin 2) (j : Fin 4) (b' : Fin 8) (k p : ℕ) (hk : k < 6) (Q : PUnit → sProp (MM F)) :
    iprop(ctx m K J ∗ sendSt c di j (k + 1) ∗ ow c p)
      ⊢ iprop(((sendFree c di j (k + 1) ∗ ow c p) -∗ Q ⟨⟩) -∗ run c (waitSend di j b') Q) := by
  unfold waitSend sendSt sendFree
  iintro ⟨#Hctx, ⟨Hat, Hc⟩, HO⟩ HQ
  simp only [Prog.lift]
  iapply (wait_one m K J c (.send di j) k 0 p (by simp) rfl hk (by decide) (Nat.zero_le _)
    (show ∀ Q : PUnit → sProp (MM F), _ = waitSpec (c : Thread nD τ) Set.univ (.dma (ssem di j)) ((sdS di j).view.amount (.dma (ssem di j))) Q
      from wpE_waitDma2_eq 𝒱₀ (c : Thread nD τ) none Set.univ)) $$ [Hc HO Hat]
  · isplitr; · iexact Hctx
    isplitl [Hc]; · iexact Hc
    isplitl [HO] <;> iassumption
  iintro ⟨HO, Hat, Hre, Hpay⟩
  simp only [wp_ret]
  imodintro
  iapply HQ
  isplitr [HO]
  · isplitl [Hat]; · iexact Hat
    isplitl [Hre]; · iexact Hre
    iapply (Entails.of_eq (show pay m c (.send di j) k 0 = any_ c (sdS di j) from rfl)); iexact Hpay
  iexact HO

/-- A message put in a free slot. -/
theorem put_spec (c : Dev nD) (di : Fin 2) (j : Fin 4) (v : FVec F S1x1x1024x512 .bf16) (Q : PUnit → sProp (MM F)) :
    (any_ c (sdS di j) : sProp (MM F)) ⊢ iprop((has_ c (sd4 di j) v -∗ Q ⟨⟩) -∗ run c (putSend di j v) Q) := by
  unfold putSend has_
  rw [any_sd4]
  iintro Hm HQ
  ihave Hm2 := (any_elim c (sd4 di j)) $$ Hm
  icases Hm2 with ⟨%f, Hm⟩
  simp only [wp_bind, Prog.lift]
  iapply (wp_load_rect 𝒱₀ (c : Thread nD τ) none Set.univ (m := sdM) (r := rSd di j) subset_rfl) $$ Hm
  iintro Hm
  simp only [wp_ret]
  imodintro
  iapply (wp_store 𝒱₀ (c : Thread nD τ) none Set.univ (m := sdM) (r := rSd di j) (Mk := Finset.univ)
    (by rw [View.setOn_univ])) $$ Hm
  iintro Hm
  simp only [wp_ret]
  imodintro
  iapply HQ
  iexists _
  isplitl [Hm]; · iexact Hm
  ipureintro
  exact View.read_write_univ _ _

/-- Message `n` sent from its slot. -/
theorem send_spec (c : Dev nD) (di : Fin 2) (n : ℕ) (b : Fin 8) (hb : b = bq n) (hn : n < 24) (Q : PUnit → sProp (MM F)) :
    iprop(ctx m K J ∗ has_ c (sd4 di (slotOf b)) (sent m di b (n / 8) c) ∗ permit c di n ∗ msgTok c di n
        ∗ atPos ER (cell c (.send di (slotOf b))) (n / 4) ∅ 0 ∗ reached ER (cell c (.send di (slotOf b))) (n / 4) ∗ ow c (4 * n + 2 * di.val + 1))
      ⊢ iprop(((sendSt c di (slotOf b) (n / 4 + 1) ∗ ow c (4 * n + 2 * di.val + 2)) -∗ Q ⟨⟩) -∗ run c (send c di b) Q) := by
  subst hb
  unfold send has_ permit msgTok ow sendSt
  iintro ⟨#Hctx, ⟨%f, Hm, %hf⟩, ⟨#Hrel, #Hre⟩, ⟨Hd, Hw, Hds⟩, Hat, #Hrs, ⟨%W, HO⟩⟩ HQ
  imod (Release.slot_take ES (Set.mem_univ (J (dstD c di, di, bq n))) (n / 8 + 1)) $$ [Hw] with Hslot
  · isplitr; · iapply (ctx_slot m K J (dstD c di, di, bq n)); iexact Hctx
    isplitr; · iexact Hrel
    iexact Hw
  ihave Hslot2 := (any_elim (dstD c di) (rcS di (bq n))) $$ Hslot
  icases Hslot2 with ⟨%fd, Hslot⟩
  simp only [Prog.lift]
  ihave Hm := (Entails.of_eq (at_sd4 (F := F) c di (jq n) f).symm) $$ Hm
  have hdi := di.isLt
  iapply (Rounds.wp_send_pointsTo 𝒱₀ ER (Rd m) (c : Thread nD τ) none (c' := (Dev.tc (dstD c di) : Thread nD τ)) (src := sdS di (jq n)) (dst := rcS di (bq n))
      (sS := sm (.send di (jq n))) (sem := sm (.recv di (bq n)))
      (fs := f) (fd := fd) (r₁ := n / 4) (r₂ := n / 8) (d₁ := 0) (d₂ := 0)
      (κ₁ := K (cell c (.send di (jq n)))) (κ₂ := K (cell (dstD c di) (.recv di (bq n))))
      (by rw [duties_eq m c (.send di (jq n)) (by simp) _ (show n / 4 < 6 by omega)]; exact Finset.mem_singleton_self 0)
      (by rw [duties_eq m (dstD c di) (.recv di (bq n)) (by simp) _ (show n / 8 < 3 by omega)]; exact Finset.mem_singleton_self 0)
      n 0 NB (amount_rcS di (bq n) _) (amount_eq m c (.send di (jq n)) (by simp) _ _) (amount_eq m (dstD c di) (.recv di (bq n)) (by simp) _ _)
      (O₀ := owed c (4 * n + 2 * di.val + 1)) (owed c (4 * n + 2 * di.val + 2)) (by rw [owed_step c _ (by omega), item_send])
      (W := W)
      (by rw [payload_eq m c (.send di (jq n)) (by simp)]; show _ ⊢ any_ c (sdS di (jq n)); exact any_intro c (sdS di (jq n)) f)
      (by
        rw [payload_eq m (dstD c di) (.recv di (bq n)) (by simp)]
        show _ ⊢ has_ (dstD c di) (rc4 di (bq n)) (sent m di (bq n) (n / 8) (upD (dstD c di) di))
        rw [up_dst]
        unfold has_
        refine (Entails.of_eq (at_rc4 (F := F) (dstD c di) di (bq n) _)).trans ?_
        iintro H
        iexists _
        isplitl [H]; · iexact H
        ipureintro
        rw [msg_read]; exact hf)) $$ [Hm Hslot HO Hds Hd]
  · isplitr; · iapply (ctx_cell m K J c (.send di (jq n))); iexact Hctx
    isplitr; · iapply (ctx_cell m K J (dstD c di) (.recv di (bq n))); iexact Hctx
    isplitl [Hm]; · iexact Hm
    isplitl [Hslot]; · iexact Hslot
    isplitl [HO]; · iexact HO
    isplitl [Hds]; · iexact Hds
    isplitr; · iexact Hrs
    isplitl [Hd]; · iexact Hd
    iexact Hre
  iintro ⟨Hc, HO⟩
  simp only [wp_ret]
  imodintro
  iapply HQ
  isplitr [HO]
  · isplitl [Hat] <;> iassumption
  iexists W; iexact HO

/-! ## Credits -/

theorem crd_spec (c : Dev nD) (di : Fin 2) (n : ℕ) (h8 : 8 ≤ n) (hn : n < 24) {α : Type} (kt : PUnit → Pg F α) (Q : α → sProp (MM F)) :
    iprop(ctx m K J ∗ creds m c di n ∗ permit (upD c di) di n ∗ ow c (4 * n + 2 * di.val))
      ⊢ iprop(((creds m c di (n + 1) ∗ permit c di n ∗ ow c (4 * n + 2 * di.val + 1)) -∗ run c (kt ⟨⟩) Q)
          -∗ run c (semSignalWord (upD c di) (credSem di) 1#32 >>= fun _ => semWaitWord (credSem di) 1#32 >>= kt) Q) := by
  have hdi := di.isLt
  unfold creds ow crdSt
  rw [bigSep_Ico_succ_bot hn, bigSep_Ico_succ_top (show 8 ≤ n by omega)]
  unfold crdTok
  iintro ⟨#Hctx, ⟨⟨⟨Hd, Hc⟩, Htoks⟩, ⟨%S, %hS, Hat, #HS⟩, #Hre, #Hgiven⟩, #Hp, ⟨%W, HO⟩⟩ Hk
  simp only [wp_bind, semSignalWord, semWaitWord]
  iapply (Rounds.wp_signal 𝒱₀ ER (Rd m) (c : Thread nD τ) none (dst := (upD c di : Thread nD τ)) (sem := credSem di) (r := 0) (d := n - 8) (k' := 1) (κ := K (cell (upD c di) (.credit di)))
    (by rw [show ((upD c di : Thread nD τ), SemLoc.reg (credSem di)) = cell (upD c di) (.credit di) from rfl, duties_eq m (upD c di) (.credit di) (by simp) 0 Nat.one_pos]
        exact Finset.mem_range.mpr (by omega))
    (amount_eq m (upD c di) (.credit di) (by simp) _ _) n (O₀ := owed c (4 * n + 2 * di.val)) (owed c (4 * n + 2 * di.val + 1)) (by rw [owed_step c _ (by omega), item_credit c n di h8]; rfl)) $$ [HO Hd]
  · isplitr; · iapply (ctx_cell m K J (upD c di) (.credit di)); iexact Hctx
    isplitl [HO]; · iexact HO
    isplitl [Hd]; · iexact Hd
    isplitr
    · rw [show ((upD c di : Thread nD τ), SemLoc.reg (credSem di)) = cell (upD c di) (.credit di) from rfl, payload_eq m (upD c di) (.credit di) (by simp)]
      simp only [pay]
      rw [show 9 + (n - 8) = n + 1 by omega, bigSep_Ico_succ_top (show 8 ≤ n by omega)]
      isplitr; · iexact Hp
      iexact Hgiven
    iexact Hre
  iintro HO
  simp only [wp_ret]
  imodintro
  iapply (Rounds.wp_wait 𝒱₀ ER (Rd m) (c : Thread nD τ) none (κ := K (cell c (.credit di))) (sm := sm (.credit di)) (k' := 1)
    (show ∀ Q : PUnit → sProp (MM F), _ = waitSpec (c : Thread nD τ) Set.univ (.reg (credSem di)) 1 Q from wpE_semWait_eq 𝒱₀ (c : Thread nD τ) none Set.univ)
    (Set.mem_univ _) (cr := Finsupp.single n 1) (O := owed c (4 * n + 2 * di.val + 1)) (W := W) {(sm (.credit di), n)} (R := 0) (m := n - 8) (T := S)
    (Util.total_single n 1) (single_image (sm (.credit di)) n 1)) $$ [Hc HO Hat]
  · isplitr; · iapply (ctx_cell m K J c (.credit di)); iexact Hctx
    isplitl [Hc]; · iexact Hc
    isplitl [HO]; · iexact HO
    isplitr
    · iapply (mayWait c (.credit di) (by simp) n (4 * n + 2 * di.val + 1) hn (by simp only [lvK]; omega)); iapply (ctx_lev m K J); iexact Hctx
    iexact Hat
  iintro %S' ⟨%hS', HO, Hat, Hnew⟩
  obtain ⟨h1, h2, h3⟩ := hS'
  rw [duties_eq m c (.credit di) (by simp) 0 Nat.one_pos] at h2 h3
  rw [expect_eq m c (.credit di) (by simp) 0 Nat.one_pos] at h3
  simp only [dset, amt, Finset.card_range] at h2 h3
  have hcard : n - 8 + 1 ≤ S'.card := by
    have := Finset.card_sdiff_add_card_eq_card h2
    rw [Finset.card_range] at this
    omega
  ihave #HS' : (bigSep S' fun d => pay m c (.credit di) 0 d : sProp (MM F)) $$ [Hnew]
  · rw [show (bigSep S' fun d => pay m c (.credit di) 0 d : sProp (MM F)) = iprop((bigSep S fun d => pay m c (.credit di) 0 d) ∗ bigSep (S' \ S) fun d => pay m c (.credit di) 0 d) from
      bigSep_sdiff_split h1]
    isplitr; · iexact HS
    rw [show (bigSep (S' \ S) fun d => pay m c (.credit di) 0 d : sProp (MM F)) = bigSep (S' \ S) fun d => (Rd m).payload (cell c (.credit di)) 0 d from
      bigSep_congr fun d _ => (payload_eq m c (.credit di) (by simp) 0 d).symm]
    iexact Hnew
  obtain ⟨d, hd, hle⟩ : ∃ d ∈ S', n - 8 ≤ d := by
    by_contra hno
    push Not at hno
    have : S'.card ≤ (Finset.range (n - 8)).card := Finset.card_le_card fun x hx => Finset.mem_range.mpr (hno x hx)
    rw [Finset.card_range] at this; omega
  ihave #Hq : permit c di n $$ []
  · iapply (big_mem (s := Finset.Ico 8 (9 + d)) (Φ := permit c di) (Finset.mem_Ico.mpr ⟨h8, by omega⟩))
    iapply (Entails.of_eq (show pay m c (.credit di) 0 d = bigSep (Finset.Ico 8 (9 + d)) (permit c di) from rfl))
    iapply (big_mem (Φ := fun d => pay m c (.credit di) 0 d) hd); iexact HS'
  simp only [wp_ret]
  imodintro
  iapply Hk
  isplitl [Htoks Hat]
  · isplitl [Htoks]; · iexact Htoks
    isplitl [Hat]
    · iexists S'
      isplitr; · ipureintro; exact ⟨h2, by omega⟩
      rw [show n + 1 - 8 = n - 8 + 1 by omega]
      isplitl [Hat]; · iexact Hat
      iexact HS'
    isplitr; · iexact Hre
    isplitr; · iexact Hp
    iexact Hgiven
  isplitr; · iexact Hq
  iexists _; iexact HO

end Cert.RingProof

end
-- ==== Proof.Mem.lean ====
/-
  The local steps: a chunk fetched and cast, a column block fetched and cast, a half product, a half of the result staged, a
  column block of the result copied out. Each is stated once for every chunk, block and slot.
-/
module

public import proofs.«01_k».proof.Proof.Msg

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : GSem nD τ sig → ℕ) (J : Key → ℕ)

/-! ## Contents that read alike -/

/-- Two contents that a piece's view reads alike are the same contents of the piece. -/
theorem at_congr {sp : Space} {s : Shape} {e : EltTy} (c : Dev nD) (M : Memref sig .tc sp s e) (f g : Buf (Elt F) (M.view.loc (c : Thread nD τ)))
    (h : M.view.read (Elt F) f = M.view.read (Elt F) g) : (at_ c M f : sProp (MM F)) = at_ c M g := by
  refine pointsTo_congr fun i hi => ?_
  obtain ⟨x, -, rfl⟩ := Finset.mem_map.mp hi
  exact View.eq_of_read_eq (congrFun h x)

abbrev xs3 (k : Fin 2) : Memref sig .tc .vmem S1x1024x1024 .f32 := xsM.slice (rX k) (fun _ => rfl)
abbrev ws3 (k : Fin 2) : Memref sig .tc .vmem S1x1024x1024 .f32 := wsM.slice (rX k) (fun _ => rfl)

theorem set_xS (k : Fin 2) : (xS k).view.set = (xs3 k).view.set := View.set_reshape _ _
theorem set_wS (k : Fin 2) : (wS k).view.set = (ws3 k).view.set := View.set_reshape _ _
theorem at_xs3 (c : Dev nD) (k : Fin 2) (f : Buf (Elt F) ((xs3 k).view.loc (c : Thread nD τ))) : (at_ c (xS k) f : sProp (MM F)) = at_ c (xs3 k) f :=
  congrArg (fun I => pointsTo ((xs3 k).view.loc (c : Thread nD τ)) I fullShare f) (set_xS k)
theorem at_ws3 (c : Dev nD) (k : Fin 2) (f : Buf (Elt F) ((ws3 k).view.loc (c : Thread nD τ))) : (at_ c (wS k) f : sProp (MM F)) = at_ c (ws3 k) f :=
  congrArg (fun I => pointsTo ((ws3 k).view.loc (c : Thread nD τ)) I fullShare f) (set_wS k)

theorem pay1_eq (k : Fin 2) (f : (xs3 k).view.ty.Contents (Elt F)) :
    k0_pay1 ((xs3 k).view.read (Elt F) f) = truncf .fp8e5m2 ((xS k).view.read (Elt F) f : FVec F S1024x1024 .f32) bitsLt_fp8e5m2_f32 := by
  unfold k0_pay1
  funext i
  refine congrArg (truncf .fp8e5m2 ((xS k).view.read (Elt F) f : FVec F S1024x1024 .f32) bitsLt_fp8e5m2_f32) (Shape.reshapeEquiv_self _ i)
theorem pay3_eq (k : Fin 2) (f : (ws3 k).view.ty.Contents (Elt F)) :
    k0_pay3 ((ws3 k).view.read (Elt F) f) = truncf .fp8e5m2 ((wS k).view.read (Elt F) f : FVec F S1024x1024 .f32) bitsLt_fp8e5m2_f32 := by
  unfold k0_pay3
  funext i
  refine congrArg (truncf .fp8e5m2 ((wS k).view.read (Elt F) f : FVec F S1024x1024 .f32) bitsLt_fp8e5m2_f32) (Shape.reshapeEquiv_self _ i)
theorem xcast_eq (c : Dev nD) (q : Fin 4) :
    (x8R q).view.read (Elt F) (X8 m c) = truncf .fp8e5m2 ((xR q).view.read (Elt F) (XA m c) : FVec F S1024x1024 .f32) bitsLt_fp8e5m2_f32 := rfl
theorem wcast_eq (c : Dev nD) (b : Fin 8) :
    (w8R b).view.read (Elt F) (W8 m c) = truncf .fp8e5m2 ((wC b).view.read (Elt F) (WA m c) : FVec F S1024x1024 .f32) bitsLt_fp8e5m2_f32 := rfl

theorem emb_val {s : Shape} (off size : Fin s.rank → ℕ) (inb : ∀ a, off a + size a ≤ s.size a) (j : (Rect.unit off size inb).shape.Idx) (a : Fin s.rank) :
    ((Rect.unit off size inb).emb j a).val = off a + (j a).val := by
  rw [Rect.emb_apply]; show off a + 1 * (j a).val = _; rw [Nat.one_mul]

/-- The chunk stored through its cast reads as the cast input. -/
theorem x8_done (c : Dev nD) (k : Fin 2) (q : Fin 4) (f8 : (x8R q).view.ty.Contents (Elt F)) (f : (xs3 k).view.ty.Contents (Elt F))
    (hf : (xS k).view.read (Elt F) f = (xR q).view.read (Elt F) (XA m c)) :
    at_ c (x8R q) ((x8R q).view.write (Elt F) f8 (k0_pay1 ((xs3 k).view.read (Elt F) f)) Finset.univ) ⊢ at_ c (x8R q) (X8 m c) :=
  Entails.of_eq (at_congr c (x8R q) _ _ ((View.read_write_univ _ _).trans (by rw [pay1_eq, xcast_eq, hf])))
theorem w8_done (c : Dev nD) (k : Fin 2) (b : Fin 8) (f8 : (w8R b).view.ty.Contents (Elt F)) (f : (ws3 k).view.ty.Contents (Elt F))
    (hf : (wS k).view.read (Elt F) f = (wC b).view.read (Elt F) (WA m c)) :
    at_ c (w8R b) ((w8R b).view.write (Elt F) f8 (k0_pay3 ((ws3 k).view.read (Elt F) f)) Finset.univ) ⊢ at_ c (w8R b) (W8 m c) :=
  Entails.of_eq (at_congr c (w8R b) _ _ ((View.read_write_univ _ _).trans (by rw [pay3_eq, wcast_eq, hf])))

/-! ## A local copy -/

theorem copy_spec (c : Dev nD) (k : Kd) (hk : k ≠ .none) (h1 : dset k = {0}) (r : ℕ) (hr : r < rounds k)
    {sp sp' : Space} {s : Shape} {e : EltTy} {src : Memref sig .tc sp s e} {dst : Memref sig .tc sp' s e}
    {hsrc : src.view.WordExact} {hdst : dst.view.WordExact} {hsem : DmaTarget.Typed (nD := nD) (p := (c : Thread nD τ).2) sp (sm k) (.here dst)}
    (hN : dst.view.amount (sm k) = amt k) (fs : Buf (Elt F) (src.view.loc (c : Thread nD τ))) (fd : Buf (Elt F) (dst.view.loc (c : Thread nD τ)))
    (hpay : iprop((at_ c dst (dst.view.write (Elt F) fd (src.view.read (Elt F) fs) Finset.univ)) ∗ at_ c src fs) ⊢ pay m c k r 0)
    {α : Type} (kt : PUnit → Pg F α) (Q : α → sProp (MM F)) :
    iprop(ctx m K J ∗ at_ c src fs ∗ at_ c dst fd ∗ dutyTok ER (cell c k) r 0 ∗ reached ER (cell c k) r)
      ⊢ iprop((cred (tallyAt (cell c k) 0 (amt k)) -∗ run c (kt ⟨⟩) Q)
          -∗ run c (.op (.enqueueDma src (.here dst) (sm k) hsrc hdst hsem) kt) Q) := by
  iintro ⟨#Hctx, Hs, Hd, Ht, Hr⟩ HQ
  iapply (Rounds.wp_copy_pointsTo 𝒱₀ ER (Rd m) (c : Thread nD τ) none (src := src) (dst := dst) (sem := sm k) (q := fullShare) (fs := fs) (fd := fd) (r := r) (d := 0)
    (κ := K (cell c k)) (by rw [duties_eq m c k hk r hr, h1]; exact Finset.mem_singleton_self 0) 0 (amt k) hN (amount_eq m c k hk r 0)
    (by rw [payload_eq m c k hk]; exact hpay)) $$ [Hs Hd Ht Hr]
  · isplitr; · iapply (ctx_cell m K J c k); iexact Hctx
    isplitl [Hs]; · iexact Hs
    isplitl [Hd]; · iexact Hd
    isplitl [Ht]; · iexact Ht
    iexact Hr
  iexact HQ

/-! ## Fetching and casting a chunk of `x` -/

/-- A fetch cell ready for fetch `r`, its staging slot free; fetch `r` under way. -/
def xFree (c : Dev nD) (k : Fin 2) (r : ℕ) : sProp (MM F) :=
  iprop(atPos ER (cell c (.xd k)) r ∅ 0 ∗ reached ER (cell c (.xd k)) r ∗ any_ c (xS k))
def xFly (c : Dev nD) (k : Fin 2) (r : ℕ) : sProp (MM F) :=
  iprop(atPos ER (cell c (.xd k)) r ∅ 0 ∗ cred (tallyAt (cell c (.xd k)) 0 NL))
def wFree (c : Dev nD) (k : Fin 2) (r : ℕ) : sProp (MM F) :=
  iprop(atPos ER (cell c (.wd k)) r ∅ 0 ∗ reached ER (cell c (.wd k)) r ∗ any_ c (wS k))
def wFly (c : Dev nD) (k : Fin 2) (r : ℕ) : sProp (MM F) :=
  iprop(atPos ER (cell c (.wd k)) r ∅ 0 ∗ cred (tallyAt (cell c (.wd k)) 0 NL))

theorem xFetch_spec (c : Dev nD) (k : Fin 2) (r : ℕ) (hr : r < 2) (o : Fin 2 → ℕ) (h : ∀ a, o a + S1024x1024.size a ≤ S4096x1024.size a)
    (ho : o = ![(xq c k r).val * 1024, 0]) (Q : PUnit → sProp (MM F)) :
    iprop(ctx m K J ∗ xFree c k r ∗ at_ c (xR (xq c k r)) (XA m c) ∗ dutyTok ER (cell c (.xd k)) r 0)
      ⊢ iprop((xFly c k r -∗ Q ⟨⟩) -∗ run c (xFetch o h k) Q) := by
  subst ho
  unfold xFetch xFree xFly
  iintro ⟨#Hctx, ⟨Hat, Hr, Hs⟩, Hx, Hd⟩ HQ
  ihave Hs2 := (any_elim c (xS k)) $$ Hs
  icases Hs2 with ⟨%f, Hs⟩
  simp only [Prog.lift]
  iapply (copy_spec m K J c (.xd k) (by simp) rfl (src := xR (xq c k r)) (dst := xS k) r hr (amount_xS k _) (XA m c) f (by
      show _ ⊢ iprop(at_ c (xR (xq c k r)) (XA m c) ∗ has_ c (xS k) ((xR (xq c k r)).view.read (Elt F) (XA m c)))
      unfold has_
      iintro ⟨Ha, Hb⟩
      isplitl [Hb]; · iexact Hb
      iexists _
      isplitl [Ha]; · iexact Ha
      ipureintro; exact View.read_write_univ _ _)) $$ [Hs Hx Hd Hr]
  · isplitr; · iexact Hctx
    isplitl [Hx]; · iexact Hx
    isplitl [Hs]; · iexact Hs
    isplitl [Hd] <;> iassumption
  iintro Hc
  simp only [wp_ret]
  imodintro
  iapply HQ
  isplitl [Hat]; · iexact Hat
  iexact Hc

theorem xCast_spec (c : Dev nD) (k : Fin 2) (r p : ℕ) (hr : r < 2) (o o' : Fin 2 → ℕ) (h : ∀ a, o a + S1024x1024.size a ≤ S4096x1024.size a)
    (h' : ∀ a, o' a + S1024x1024.size a ≤ S4096x1024.size a) (hp : (rC o' h').PackedRows (EltTy.packing .fp8e5m2))
    (ho' : o' = ![(xq c k r).val * 1024, 0]) (Q : PUnit → sProp (MM F)) :
    iprop(ctx m K J ∗ xFly c k r ∗ any_ c (x8R (xq c k r)) ∗ ow c p)
      ⊢ iprop(((xFree c k (r + 1) ∗ at_ c (xR (xq c k r)) (XA m c) ∗ at_ c (x8R (xq c k r)) (X8 m c) ∗ ow c p) -∗ Q ⟨⟩) -∗ run c (xCast o h o' h' hp k) Q) := by
  subst ho'
  unfold xCast xFree xFly
  iintro ⟨#Hctx, ⟨Hat, Hc⟩, H8, HO⟩ HQ
  ihave H82 := (any_elim c (x8R (xq c k r))) $$ H8
  icases H82 with ⟨%f8, H8⟩
  simp only [wp_bind, Prog.lift]
  iapply (wait_one m K J c (.xd k) r 0 p (by simp) rfl hr (by decide) (Nat.zero_le _)
    (show ∀ Q : PUnit → sProp (MM F), _ = waitSpec (c : Thread nD τ) Set.univ (.dma (xsem k)) ((xS k).view.amount (.dma (xsem k))) Q
      from wpE_waitDma2_eq 𝒱₀ (c : Thread nD τ) none Set.univ)) $$ [Hc HO Hat]
  · isplitr; · iexact Hctx
    isplitl [Hc]; · iexact Hc
    isplitl [HO] <;> iassumption
  iintro ⟨HO, Hat, Hre, Hpay⟩
  ihave Hpay := (Entails.of_eq (show pay m c (.xd k) r 0 = iprop(at_ c (xR (xq c k r)) (XA m c) ∗ has_ c (xS k) ((xR (xq c k r)).view.read (Elt F) (XA m c))) from rfl)) $$ Hpay
  unfold has_
  icases Hpay with ⟨Hx, ⟨%f, Hs, %hf⟩⟩
  simp only [wp_ret]
  imodintro
  ihave Hs := (Entails.of_eq (at_xs3 c k f)) $$ Hs
  iapply (wp_load_rect 𝒱₀ (c : Thread nD τ) none Set.univ (m := xsM) (r := rX k) subset_rfl) $$ Hs
  iintro Hs
  simp only [wp_ret]
  imodintro
  iapply (wp_load_rect 𝒱₀ (c : Thread nD τ) none Set.univ (m := x8M) (r := rRow (xq c k r)) subset_rfl) $$ H8
  iintro H8
  simp only [wp_ret]
  imodintro
  iapply (wp_store 𝒱₀ (c : Thread nD τ) none Set.univ (m := x8M) (r := rRow (xq c k r)) (Mk := Finset.univ)
    (by rw [View.setOn_univ])) $$ H8
  iintro H8
  simp only [wp_ret]
  imodintro
  iapply HQ
  isplitl [Hat Hre Hs]
  · isplitl [Hat]; · iexact Hat
    isplitl [Hre]; · iexact Hre
    iapply (any_intro c (xS k) f); rw [at_xs3]; iexact Hs
  isplitl [Hx]; · iexact Hx
  isplitl [H8]
  · iapply (x8_done m c k (xq c k r) f8 f hf); iexact H8
  iexact HO

/-! ## Fetching and casting a column block of `w` -/

theorem wFetch_spec (c : Dev nD) (r : ℕ) (b : Fin 8) (hb : b.val / 2 = r) (Q : PUnit → sProp (MM F)) :
    iprop(ctx m K J ∗ wFree c (par b) r ∗ at_ c (wC b) (WA m c) ∗ dutyTok ER (cell c (.wd (par b))) r 0)
      ⊢ iprop((wFly c (par b) r -∗ Q ⟨⟩) -∗ run c (wFetch b) Q) := by
  have hlt := b.isLt
  have hq : wq (par b) r = b := Fin.ext (by show (2 * r + b.val % 2) % 8 = b.val; omega)
  unfold wFetch wFree wFly
  iintro ⟨#Hctx, ⟨Hat, Hr, Hs⟩, Hx, Hd⟩ HQ
  ihave Hs2 := (any_elim c (wS (par b))) $$ Hs
  icases Hs2 with ⟨%f, Hs⟩
  simp only [Prog.lift]
  iapply (copy_spec m K J c (.wd (par b)) (by simp) rfl (src := wC b) (dst := wS (par b)) r (show r < 4 by omega) (amount_wS (par b) _) (WA m c) f (by
      show _ ⊢ iprop(at_ c (wC (wq (par b) r)) (WA m c) ∗ has_ c (wS (par b)) ((wC (wq (par b) r)).view.read (Elt F) (WA m c)))
      rw [hq]
      unfold has_
      iintro ⟨Ha, Hb⟩
      isplitl [Hb]; · iexact Hb
      iexists _
      isplitl [Ha]; · iexact Ha
      ipureintro; exact View.read_write_univ _ _)) $$ [Hs Hx Hd Hr]
  · isplitr; · iexact Hctx
    isplitl [Hx]; · iexact Hx
    isplitl [Hs]; · iexact Hs
    isplitl [Hd] <;> iassumption
  iintro Hc
  simp only [wp_ret]
  imodintro
  iapply HQ
  isplitl [Hat]; · iexact Hat
  iexact Hc

theorem wCast_spec (c : Dev nD) (r p : ℕ) (b : Fin 8) (hb : b.val / 2 = r) (Q : PUnit → sProp (MM F)) :
    iprop(ctx m K J ∗ wFly c (par b) r ∗ any_ c (w8R b) ∗ ow c p)
      ⊢ iprop(((wFree c (par b) (r + 1) ∗ at_ c (wC b) (WA m c) ∗ at_ c (w8R b) (W8 m c) ∗ ow c p) -∗ Q ⟨⟩) -∗ run c (wCast b) Q) := by
  have hlt := b.isLt
  have hq : wq (par b) r = b := Fin.ext (by show (2 * r + b.val % 2) % 8 = b.val; omega)
  unfold wCast wFree wFly
  iintro ⟨#Hctx, ⟨Hat, Hc⟩, H8, HO⟩ HQ
  ihave H82 := (any_elim c (w8R b)) $$ H8
  icases H82 with ⟨%f8, H8⟩
  simp only [wp_bind, Prog.lift]
  iapply (wait_one m K J c (.wd (par b)) r 0 p (by simp) rfl (show r < 4 by omega) (by decide) (Nat.zero_le _)
    (show ∀ Q : PUnit → sProp (MM F), _ = waitSpec (c : Thread nD τ) Set.univ (.dma (wsem (par b))) ((wS (par b)).view.amount (.dma (wsem (par b)))) Q
      from wpE_waitDma2_eq 𝒱₀ (c : Thread nD τ) none Set.univ)) $$ [Hc HO Hat]
  · isplitr; · iexact Hctx
    isplitl [Hc]; · iexact Hc
    isplitl [HO] <;> iassumption
  iintro ⟨HO, Hat, Hre, Hpay⟩
  ihave Hpay := (Entails.of_eq (show pay m c (.wd (par b)) r 0 = iprop(at_ c (wC b) (WA m c) ∗ has_ c (wS (par b)) ((wC b).view.read (Elt F) (WA m c))) by
    show iprop(at_ c (wC (wq (par b) r)) (WA m c) ∗ has_ c (wS (par b)) ((wC (wq (par b) r)).view.read (Elt F) (WA m c))) = _; rw [hq])) $$ Hpay
  unfold has_
  icases Hpay with ⟨Hx, ⟨%f, Hs, %hf⟩⟩
  simp only [wp_ret]
  imodintro
  ihave Hs := (Entails.of_eq (at_ws3 c (par b) f)) $$ Hs
  iapply (wp_load_rect 𝒱₀ (c : Thread nD τ) none Set.univ (m := wsM) (r := rX (par b)) subset_rfl) $$ Hs
  iintro Hs
  simp only [wp_ret]
  imodintro
  iapply (wp_load_rect 𝒱₀ (c : Thread nD τ) none Set.univ (m := w8M) (r := rW b) subset_rfl) $$ H8
  iintro H8
  simp only [wp_ret]
  imodintro
  iapply (wp_store 𝒱₀ (c : Thread nD τ) none Set.univ (m := w8M) (r := rW b) (Mk := Finset.univ)
    (by rw [View.setOn_univ])) $$ H8
  iintro H8
  simp only [wp_ret]
  imodintro
  iapply HQ
  isplitl [Hat Hre Hs]
  · isplitl [Hat]; · iexact Hat
    isplitl [Hre]; · iexact Hre
    iapply (any_intro c (wS (par b)) f); rw [at_ws3]; iexact Hs
  isplitl [Hx]; · iexact Hx
  isplitl [H8]
  · iapply (w8_done m c (par b) b f8 f hf); iexact H8
  iexact HO

/-! ## Half products -/

theorem sub_rH (b : Fin 8) (di : Fin 2) : (w8M.access (rH b di)).set ⊆ (w8R b).view.set := by
  show ((View.whole cc0_scratch2).slice (rH b di)).set ⊆ ((View.whole cc0_scratch2).slice (rW b)).set
  rw [View.set_slice_whole, View.set_slice_whole]
  intro i hi
  rw [Rect.mem_set_unit] at hi ⊢
  have hb := b.isLt
  have hd := di.isLt
  have h0 := hi 0
  have h1 := hi 1
  exact Fin.forall_fin_two.mpr ⟨h0, by
    change b.val * 1024 + di.val * 512 ≤ (i 1).val ∧ (i 1).val < b.val * 1024 + di.val * 512 + 512 at h1
    show b.val * 1024 ≤ (i 1).val ∧ (i 1).val < b.val * 1024 + 1024
    omega⟩

theorem part_spec (c : Dev nD) (q : Fin 4) (o : Fin 2 → ℕ) (h : ∀ a, o a + S1024x1024.size a ≤ S4096x1024.size a) (ho : o = ![q.val * 1024, 0])
    (b : Fin 8) (di : Fin 2) (Q : FVec F S1024x512 .f32 → sProp (MM F)) :
    iprop(at_ c (x8R q) (X8 m c) ∗ at_ c (w8R b) (W8 m c))
      ⊢ iprop(((at_ c (x8R q) (X8 m c) ∗ at_ c (w8R b) (W8 m c)) -∗ Q (prt m c q b di)) -∗ run c (partOf o h b di) Q) := by
  subst ho
  unfold partOf prt xch wh
  iintro ⟨Hx, Hw⟩ HQ
  simp only [wp_bind, Prog.lift]
  iapply (wp_load_rect 𝒱₀ (c : Thread nD τ) none Set.univ (m := x8M) (r := rRow q) subset_rfl) $$ Hx
  iintro Hx
  simp only [wp_ret]
  imodintro
  iapply (wp_load_rect 𝒱₀ (c : Thread nD τ) none Set.univ (m := w8M) (r := rH b di) (sub_rH b di)) $$ Hw
  iintro Hw
  simp only [wp_ret]
  imodintro
  simp only [Pure.pure, wp_ret]
  imodintro
  iapply HQ
  isplitl [Hx] <;> iassumption

/-! ## The result -/

/-- The copy-out cell before block `r` is staged: the first block finds it free, a later one finds the copy of the block before under way. -/
def cFree (c : Dev nD) (r : ℕ) : sProp (MM F) :=
  iprop(atPos ER (cell c .copy) r ∅ 0 ∗ reached ER (cell c .copy) r ∗ any_ c stM)
def cFly (c : Dev nD) (r : ℕ) : sProp (MM F) :=
  iprop(atPos ER (cell c .copy) r ∅ 0 ∗ cred (tallyAt (cell c .copy) 0 NL))

theorem wait_copy_spec (c : Dev nD) (b : Fin 8) (p : ℕ) (Q : PUnit → sProp (MM F)) :
    iprop(ctx m K J ∗ cFly c b.val ∗ ow c p)
      ⊢ iprop(((cFree c (b.val + 1) ∗ at_ c (oC b) (OUT m c) ∗ ow c p) -∗ Q ⟨⟩) -∗ run c (waitCopy b) Q) := by
  have hq : bq b.val = b := Fin.ext (Nat.mod_eq_of_lt b.isLt)
  unfold waitCopy cFly cFree
  iintro ⟨#Hctx, ⟨Hat, Hc⟩, HO⟩ HQ
  simp only [Prog.lift]
  iapply (wait_one m K J c .copy b.val 0 p (by simp) rfl b.isLt (by decide) (Nat.zero_le _)
    (show ∀ Q : PUnit → sProp (MM F), _ = waitSpec (c : Thread nD τ) Set.univ (.dma csem) ((oC b).view.amount (.dma csem)) Q
      from wpE_waitDma2_eq 𝒱₀ (c : Thread nD τ) none Set.univ)) $$ [Hc HO Hat]
  · isplitr; · iexact Hctx
    isplitl [Hc]; · iexact Hc
    isplitl [HO] <;> iassumption
  iintro ⟨HO, Hat, Hre, Hpay⟩
  ihave Hpay := (Entails.of_eq (show pay m c .copy b.val 0 = iprop(any_ c stM ∗ at_ c (oC b) (OUT m c)) by
    show iprop(any_ c stM ∗ at_ c (oC (bq b.val)) (OUT m c)) = _; rw [hq])) $$ Hpay
  icases Hpay with ⟨Hs, Ho⟩
  simp only [wp_ret]
  imodintro
  iapply HQ
  isplitl [Hat Hre Hs]
  · isplitl [Hat]; · iexact Hat
    isplitl [Hre] <;> iassumption
  isplitl [Ho] <;> iassumption

theorem put_half_spec (c : Dev nD) (di : Fin 2) (v : FVec F S1024x512 .f32) (f : Buf (Elt F) (stM.view.loc (c : Thread nD τ))) (Q : PUnit → sProp (MM F)) :
    (at_ c stM f : sProp (MM F))
      ⊢ iprop((at_ c stM ((stM.access (rG di)).write (Elt F) f v Finset.univ) -∗ Q ⟨⟩) -∗ run c (putHalf di v) Q) := by
  unfold putHalf
  iintro Hm HQ
  simp only [wp_bind, Prog.lift]
  iapply (wp_load_rect 𝒱₀ (c : Thread nD τ) none Set.univ (m := stM) (r := rG di) (View.set_slice_subset stM.view (rG di))) $$ Hm
  iintro Hm
  simp only [wp_ret]
  imodintro
  iapply (wp_store 𝒱₀ (c : Thread nD τ) none Set.univ (m := stM) (r := rG di) (Mk := Finset.univ)
    (by rw [View.setOn_univ]; exact View.set_slice_subset stM.view (rG di))) $$ Hm
  iintro Hm
  simp only [wp_ret]
  imodintro
  iapply HQ
  iexact Hm

/-- The staging buffer with both halves put reads as the block of the result. -/
theorem staged_eq (c : Dev nD) (b : Fin 8) (f : stM.view.ty.Contents (Elt F)) :
    stM.view.read (Elt F) ((stM.access (rG 1)).write (Elt F) ((stM.access (rG 0)).write (Elt F) f (resH m c b 0) Finset.univ) (resH m c b 1) Finset.univ)
      = (oC b).view.read (Elt F) (OUT m c) := by
  have hb := b.isLt
  funext i
  have hi1 : (i 1).val < 1024 := (i 1).isLt
  have key : ∀ di : Fin 2, ∀ x : S1024x512.Idx, (i 0).val = (x 0).val → (i 1).val = di.val * 512 + (x 1).val →
      (oC b).view.read (Elt F) (OUT m c) i = resH m c b di x := by
    intro di x h0 h1
    have hdi := di.isLt
    have hx1 : (x 1).val < 512 := (x 1).isLt
    have hcol : (((rW b).emb i : S1024x8192.Idx) 1).val = b.val * 1024 + (i 1).val := emb_val _ _ _ _ _
    have hrow : (((rW b).emb i : S1024x8192.Idx) 0).val = (i 0).val := (emb_val _ _ _ _ _).trans (Nat.zero_add _)
    have e1 : blkOf ((rW b).emb i) = b := Fin.ext (by show _ / 1024 = b.val; rw [hcol]; omega)
    have e2 : halfOf ((rW b).emb i) = di := Fin.ext (by show _ % 1024 / 512 = di.val; rw [hcol]; omega)
    have e3 : idxH ((rW b).emb i) = x := by
      funext a; revert a; rw [Fin.forall_fin_two]
      exact ⟨Fin.ext (by show _ = (x 0).val; rw [← h0]; exact hrow),
        Fin.ext (by show (((rW b).emb i : S1024x8192.Idx) 1).val % 512 = (x 1).val; rw [hcol]; omega)⟩
    show OUT m c ((rW b).emb i) = _
    unfold OUT
    rw [e1, e2, e3]
  by_cases h : (i 1).val < 512
  · obtain ⟨x, hx⟩ : ∃ x : S1024x512.Idx, (rG 0).emb x = i := ⟨fun a => ⟨(i a).val, by revert a; rw [Fin.forall_fin_two]; exact ⟨(i 0).isLt, h⟩⟩, by
      funext a; revert a; rw [Fin.forall_fin_two]
      exact ⟨Fin.ext ((emb_val _ _ _ _ _).trans (Nat.zero_add _)), Fin.ext ((emb_val _ _ _ _ _).trans (Nat.zero_add _))⟩⟩
    rw [key 0 x (by rw [← hx]; exact (emb_val _ _ _ _ _).trans (Nat.zero_add _)) (by rw [← hx]; exact (emb_val _ _ _ _ _))]
    rw [View.read_slice_write_of_not_mem (v := stM.view) (rG 1) _ _ _ (by
      rw [Rect.map_emb_univ, Rect.mem_set_unit]
      intro hm
      have h1 : 1 * 512 ≤ (i 1).val := (hm 1).1
      omega), ← hx]
    exact View.read_slice_write_emb (v := stM.view) (rG 0) _ _ (Finset.mem_univ x)
  · obtain ⟨x, hx⟩ : ∃ x : S1024x512.Idx, (rG 1).emb x = i := ⟨fun a => ⟨![(i 0).val, (i 1).val - 512] a, by
        revert a; rw [Fin.forall_fin_two]; exact ⟨(i 0).isLt, by show (i 1).val - 512 < 512; omega⟩⟩, by
      funext a; revert a; rw [Fin.forall_fin_two]
      exact ⟨Fin.ext ((emb_val _ _ _ _ _).trans (Nat.zero_add _)), Fin.ext ((emb_val _ _ _ _ _).trans (by show 1 * 512 + ((i 1).val - 512) = _; omega))⟩⟩
    rw [key 1 x (by rw [← hx]; exact (emb_val _ _ _ _ _).trans (Nat.zero_add _)) (by rw [← hx]; exact (emb_val _ _ _ _ _)), ← hx]
    exact View.read_slice_write_emb (v := stM.view) (rG 1) _ _ (Finset.mem_univ x)

/-- The copy of a staged block delivers it. -/
theorem out_done (c : Dev nD) (b : Fin 8) (g : stM.view.ty.Contents (Elt F)) (fo : (oC b).view.ty.Contents (Elt F))
    (hg : stM.view.read (Elt F) g = (oC b).view.read (Elt F) (OUT m c)) :
    iprop(at_ c (oC b) ((oC b).view.write (Elt F) fo (stM.view.read (Elt F) g) Finset.univ) ∗ at_ c stM g) ⊢ pay m c .copy b.val 0 := by
  have hq : bq b.val = b := Fin.ext (Nat.mod_eq_of_lt b.isLt)
  show _ ⊢ iprop(any_ c stM ∗ at_ c (oC (bq b.val)) (OUT m c))
  rw [hq]
  have e := at_congr (F := F) c (oC b) ((oC b).view.write (Elt F) fo (stM.view.read (Elt F) g) Finset.univ) (OUT m c) ((View.read_write_univ _ _).trans hg)
  rw [e]
  iintro ⟨Ha, Hb⟩
  isplitl [Hb]; · iapply (any_intro c stM g); iexact Hb
  iexact Ha

/-- Both halves staged and the copy of block `b` started. -/
theorem copy_out_spec (c : Dev nD) (b : Fin 8) {α : Type} (kt : PUnit → Pg F α) (Q : α → sProp (MM F)) :
    iprop(ctx m K J ∗ cFree c b.val ∗ any_ c (oC b) ∗ dutyTok ER (cell c .copy) b.val 0)
      ⊢ iprop((cFly c b.val -∗ run c (kt ⟨⟩) Q)
          -∗ run c (putHalf 0 (resH m c b 0) >>= fun _ => putHalf 1 (resH m c b 1) >>= fun _ =>
              .op (.enqueueDma stM (.here (oC b)) (.dma csem) (Memref.isWhole_whole cc0_scratch6).wordExact (View.wordExact_bits rfl) ⟨Or.inl rfl, trivial⟩) kt) Q) := by
  unfold cFree cFly
  iintro ⟨#Hctx, ⟨Hat, Hr, Hs⟩, Ho, Hd⟩ HQ
  ihave Hs2 := (any_elim c stM) $$ Hs
  icases Hs2 with ⟨%f, Hs⟩
  ihave Ho2 := (any_elim c (oC b)) $$ Ho
  icases Ho2 with ⟨%fo, Ho⟩
  simp only [wp_bind]
  iapply (put_half_spec c 0 (resH m c b 0) f) $$ Hs
  iintro Hs
  iapply (put_half_spec c 1 (resH m c b 1) ((stM.access (rG 0)).write (Elt F) f (resH m c b 0) Finset.univ)) $$ Hs
  iintro Hs
  have hg := staged_eq m c b f
  generalize (stM.access (rG 1)).write (Elt F) ((stM.access (rG 0)).write (Elt F) f (resH m c b 0) Finset.univ) (resH m c b 1) Finset.univ = g at hg ⊢
  iapply (copy_spec m K J c .copy (by simp) rfl (src := stM) (dst := oC b) b.val b.isLt (amount_oC b _) g fo (out_done m c b g fo hg)) $$ [Hs Ho Hd Hr]
  · isplitr; · iexact Hctx
    isplitl [Hs]; · iexact Hs
    isplitl [Ho]; · iexact Ho
    isplitl [Hd] <;> iassumption
  iintro Hc
  iapply HQ
  isplitl [Hat]; · iexact Hat
  iexact Hc

end Cert.RingProof

end
-- ==== Proof.Body.lean ====
/-
  The phases of a device's run: the state between two column blocks, each block's step of each phase, and the eight blocks of a
  phase by one rule.
-/
module

public import proofs.«01_k».proof.Proof.Mem

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : GSem nD τ sig → ℕ) (J : Key → ℕ)

theorem bq_val (b : Fin 8) : bq b.val = b := Fin.ext (Nat.mod_eq_of_lt b.isLt)
theorem bq_add (k : ℕ) (b : Fin 8) : bq (8 * k + b.val) = b := Fin.ext (by have := b.isLt; show (8 * k + b.val) % 8 = b.val; omega)

theorem run_bind {α β : Type} (c : Dev nD) (p : Pg F α) (k : α → Pg F β) (Q : β → sProp (MM F)) : run c (p >>= k) Q = run c p fun a => run c (k a) Q := by
  unfold run; rw [wp_bind]

theorem run_pure {α : Type} (c : Dev nD) (a : α) (Q : α → sProp (MM F)) : Q a ⊢ run c (pure a) Q := by
  unfold run
  simp only [Pure.pure, wp_ret]
  iintro H
  imodintro
  iexact H

/-! ## A phase of eight blocks -/

/-- If each block's step takes the state `P b` to `P (b + 1)`, the eight take `P 0` to `P 8`. -/
theorem blocks_spec (c : Dev nD) (P : ℕ → sProp (MM F)) (f : Fin 8 → Pg F PUnit) (kt : Pg F PUnit) (Q : PUnit → sProp (MM F))
    (hf : ∀ (b : Fin 8) (Q : PUnit → sProp (MM F)), iprop(ctx m K J ∗ P b.val) ⊢ iprop((P (b.val + 1) -∗ Q ⟨⟩) -∗ run c (f b) Q)) :
    iprop(ctx m K J ∗ P 0) ⊢ iprop((P 8 -∗ run c kt Q) -∗ run c (blocks f kt) Q) := by
  unfold blocks
  iintro ⟨#Hctx, HP⟩ HQ
  have step : ∀ (b : Fin 8) (j k : ℕ), b.val = j → b.val + 1 = k → ∀ Q : PUnit → sProp (MM F),
      iprop(ctx m K J ∗ P j) ⊢ iprop((P k -∗ Q ⟨⟩) -∗ run c (f b) Q) := by
    rintro b j k rfl rfl Q; exact hf b Q
  simp only [run_bind]
  iapply (step 0 0 1 rfl rfl _) $$ [HP]
  · isplitr; · iexact Hctx
    iexact HP
  iintro HP
  iapply (step 1 1 2 rfl rfl _) $$ [HP]
  · isplitr; · iexact Hctx
    iexact HP
  iintro HP
  iapply (step 2 2 3 rfl rfl _) $$ [HP]
  · isplitr; · iexact Hctx
    iexact HP
  iintro HP
  iapply (step 3 3 4 rfl rfl _) $$ [HP]
  · isplitr; · iexact Hctx
    iexact HP
  iintro HP
  iapply (step 4 4 5 rfl rfl _) $$ [HP]
  · isplitr; · iexact Hctx
    iexact HP
  iintro HP
  iapply (step 5 5 6 rfl rfl _) $$ [HP]
  · isplitr; · iexact Hctx
    iexact HP
  iintro HP
  iapply (step 6 6 7 rfl rfl _) $$ [HP]
  · isplitr; · iexact Hctx
    iexact HP
  iintro HP
  iapply (step 7 7 8 rfl rfl _) $$ [HP]
  · isplitr; · iexact Hctx
    iexact HP
  iintro HP
  iapply HQ; iexact HP

/-! ## The seed phase -/

/-- A seed message needs no credit. -/
theorem owed_seed_ow (c : Dev nD) (b : Fin 8) (di : Fin 2) : (ow c (4 * b.val + 2 * di.val) : sProp (MM F)) = ow c (4 * b.val + 2 * di.val + 1) := by
  unfold ow
  rw [owed_step c (4 * b.val + 2 * di.val) (by have := b.isLt; have := di.isLt; omega), item_seed c b.val di b.isLt, add_zero]

/-- A seed step's half: message `b` of a direction made of the chunk `chD c di 0` and sent. -/
theorem seedHalf_spec (c : Dev nD) (di : Fin 2) (b : Fin 8) (o : Fin 2 → ℕ) (h : ∀ a, o a + S1024x1024.size a ≤ S4096x1024.size a)
    (ho : o = ![(chD c di 0).val * 1024, 0]) (Q : PUnit → sProp (MM F)) :
    iprop(ctx m K J ∗ permit c di b.val ∗ at_ c (x8R (chD c di 0)) (X8 m c) ∗ at_ c (w8R b) (W8 m c) ∗ sends c di b.val ∗ ow c (4 * b.val + 2 * di.val))
      ⊢ iprop(((at_ c (x8R (chD c di 0)) (X8 m c) ∗ at_ c (w8R b) (W8 m c) ∗ sends c di (b.val + 1) ∗ ow c (4 * b.val + 2 * di.val + 2)) -∗ Q ⟨⟩)
          -∗ run c (seedHalf c o h b di) Q) := by
  subst ho
  have hb := b.isLt
  have hdi := di.isLt
  have hq := bq_val b
  unfold seedHalf
  iintro ⟨#Hctx, #Hp, Hx, Hw, Hs, HO⟩ HQ
  simp only [wp_bind, Prog.lift]
  ihave Hs2 := (sends_take c di b.val (by omega)) $$ Hs
  icases Hs2 with ⟨Hst, Htok, Hback⟩
  rw [show jq b.val = slotOf b by rw [jq, hq]]
  -- the slot free
  have hfree : ∀ R : PUnit → sProp (MM F), iprop(ctx m K J ∗ sendSt c di (slotOf b) (b.val / 4) ∗ ow c (4 * b.val + 2 * di.val))
      ⊢ iprop(((sendFree c di (slotOf b) (b.val / 4) ∗ ow c (4 * b.val + 2 * di.val)) -∗ R ⟨⟩)
          -∗ run c (if 4 ≤ b.val then waitSend di (slotOf b) (prevOf b) else pure ⟨⟩) R) := by
    intro R
    by_cases h4 : 4 ≤ b.val
    · rw [if_pos h4, show b.val / 4 = 0 + 1 by omega]
      exact wait_send_spec m K J c di (slotOf b) (prevOf b) 0 _ (by decide) R
    · rw [if_neg h4, show b.val / 4 = 0 by omega]
      unfold sendSt
      iintro ⟨-, H⟩ HR
      simp only [Pure.pure, wp_ret]
      imodintro
      iapply HR; iexact H
  iapply (hfree _) $$ [Hst HO]
  · isplitr; · iexact Hctx
    isplitl [Hst] <;> iassumption
  unfold sendFree
  iintro ⟨⟨Hat, Hre, Hslot⟩, HO⟩
  iapply (wp_load_rect 𝒱₀ (c : Thread nD τ) none Set.univ (m := x8M) (r := rRow (chD c di 0)) subset_rfl) $$ Hx
  iintro Hx
  simp only [wp_ret]
  imodintro
  iapply (wp_load_rect 𝒱₀ (c : Thread nD τ) none Set.univ (m := w8M) (r := rH b di) (sub_rH b di)) $$ Hw
  iintro Hw
  simp only [wp_ret]
  imodintro
  iapply (put_spec c di (slotOf b) (sent m di b 0 c)) $$ Hslot
  iintro Hslot
  ihave HO := (Entails.of_eq (owed_seed_ow c b di)) $$ HO
  iapply (send_spec m K J c di b.val b hq.symm (by omega)) $$ [Hslot Htok Hat Hre HO]
  · isplitr; · iexact Hctx
    isplitl [Hslot]; · rw [show b.val / 8 = 0 by omega]; iexact Hslot
    isplitr; · iexact Hp
    isplitl [Htok]; · iexact Htok
    isplitl [Hat]; · iexact Hat
    isplitl [Hre]; · iexact Hre
    iexact HO
  iintro ⟨Hst, HO⟩
  iapply HQ
  isplitl [Hx]; · iexact Hx
  isplitl [Hw]; · iexact Hw
  isplitl [Hback Hst]; · iapply Hback; iexact Hst
  iexact HO

/-- A fetch cell of `w` when `r` of its blocks are cast: the next under way, or none left. -/
def wst (c : Dev nD) (k : Fin 2) (r : ℕ) : sProp (MM F) := if r < 4 then wFly c k r else wFree c k 4

/-- The rest of `w` to fetch from block `n` on. -/
def wTodo (c : Dev nD) (n : ℕ) : sProp (MM F) :=
  bigSep (Finset.Ico n 8) fun n => iprop(at_ c (wC (bq n)) (WA m c) ∗ dutyTok ER (cell c (.wd (par (bq n)))) (n / 2) 0)

/-- The column blocks of `w` when the first `b` are cast and the next two under way. -/
def Wst (c : Dev nD) (b : ℕ) : sProp (MM F) :=
  iprop((bigSep Finset.univ fun k : Fin 2 => wst c k ((b + 1 - k.val) / 2))
    ∗ (bigSep (Finset.Ico 0 b) fun n => at_ c (wC (bq n)) (WA m c))
    ∗ (bigSep (Finset.Ico 0 b) fun n => at_ c (w8R (bq n)) (W8 m c))
    ∗ wTodo m c (b + 2)
    ∗ bigSep (Finset.Ico b 8) fun n => any_ c (w8R (bq n)))

/-- The next fetch of a cast block's cell, where one is left. -/
theorem wNext_spec (c : Dev nD) (b : Fin 8) (Q : PUnit → sProp (MM F)) :
    iprop(ctx m K J ∗ wFree c (par b) (b.val / 2 + 1) ∗ wTodo m c (b.val + 2))
      ⊢ iprop(((wst c (par b) (b.val / 2 + 1) ∗ wTodo m c (b.val + 3)) -∗ Q ⟨⟩)
          -∗ run c (if hb : b.val + 2 < 8 then wFetch ⟨b.val + 2, hb⟩ else pure ⟨⟩) Q) := by
  have hb := b.isLt
  unfold wst wTodo
  by_cases h2 : b.val + 2 < 8
  · have hq2 : bq (b.val + 2) = ⟨b.val + 2, h2⟩ := Fin.ext (Nat.mod_eq_of_lt h2)
    have hp2 : par (⟨b.val + 2, h2⟩ : Fin 8) = par b := Fin.ext (by show (b.val + 2) % 2 = b.val % 2; omega)
    have hd2 : (b.val + 2) / 2 = b.val / 2 + 1 := by omega
    rw [dif_pos h2, bigSep_Ico_succ_bot (a := b.val + 2) h2, if_pos (show b.val / 2 + 1 < 4 by omega), hq2, hp2, hd2]
    have W := wFetch_spec m K J c (b.val / 2 + 1) ⟨b.val + 2, h2⟩ hd2 Q
    rw [hp2] at W
    iintro ⟨#Hctx, Hc, ⟨Hs2, Hd2⟩, Htodo⟩ HQ
    iapply W $$ [Hc Hs2 Hd2]
    · isplitr; · iexact Hctx
      isplitl [Hc]; · iexact Hc
      isplitl [Hs2] <;> iassumption
    iintro Hc
    iapply HQ
    isplitl [Hc] <;> iassumption
  · rw [dif_neg h2, if_neg (show ¬ b.val / 2 + 1 < 4 by omega), show b.val / 2 + 1 = 4 by omega, Finset.Ico_eq_empty (show ¬ b.val + 2 < 8 from h2),
      Finset.Ico_eq_empty (show ¬ b.val + 3 < 8 by omega)]
    iintro ⟨-, Hc, Htodo⟩ HQ
    iapply (run_pure c PUnit.unit Q)
    iapply HQ
    isplitl [Hc] <;> iassumption

/-- Block `b` of `w` cast, and the next but one fetched. -/
theorem wStep_spec (c : Dev nD) (b : Fin 8) (p : ℕ) {α : Type} (kt : PUnit → Pg F α) (Q : α → sProp (MM F)) :
    iprop(ctx m K J ∗ Wst m c b.val ∗ ow c p)
      ⊢ iprop(((Wst m c (b.val + 1) ∗ ow c p) -∗ run c (kt ⟨⟩) Q)
          -∗ run c (wCast b >>= fun _ => (if hb : b.val + 2 < 8 then wFetch ⟨b.val + 2, hb⟩ else pure ⟨⟩) >>= kt) Q) := by
  have hb := b.isLt
  have hq := bq_val b
  unfold Wst
  rw [bigSep_Ico_succ_top (show 0 ≤ b.val by omega), bigSep_Ico_succ_top (show 0 ≤ b.val by omega), bigSep_Ico_succ_bot (a := b.val) (b := 8) hb, hq]
  have hu := bigSep_univ_update (M := MM F) (Φ := fun k : Fin 2 => wst c k ((b.val + 1 - k.val) / 2))
    (Ψ := fun k : Fin 2 => wst c k ((b.val + 1 + 1 - k.val) / 2)) (par b) (fun k hk => by
      have h1 : k.val ≠ b.val % 2 := fun h => hk (Fin.ext h)
      have h2 : (b.val + 1 + 1 - k.val) / 2 = (b.val + 1 - k.val) / 2 := by have := k.isLt; omega
      show wst c k ((b.val + 1 + 1 - k.val) / 2) = _
      rw [h2])
  have e1 : (b.val + 1 - (par b).val) / 2 = b.val / 2 := by show (b.val + 1 - b.val % 2) / 2 = _; omega
  have e2 : (b.val + 1 + 1 - (par b).val) / 2 = b.val / 2 + 1 := by show (b.val + 1 + 1 - b.val % 2) / 2 = _; omega
  have e3 : (wst c (par b) (b.val / 2) : sProp (MM F)) = wFly c (par b) (b.val / 2) := if_pos (show b.val / 2 < 4 by omega)
  simp only [e1, e2, e3] at hu
  iintro ⟨#Hctx, ⟨Hc, Hsrc, H8, Htodo, ⟨Hany, Hanys⟩⟩, HO⟩ HQ
  ihave Hc2 := hu $$ Hc
  icases Hc2 with ⟨Hc, Hback⟩
  rw [run_bind]
  iapply (wCast_spec m K J c (b.val / 2) p b rfl) $$ [Hc Hany HO]
  · isplitr; · iexact Hctx
    isplitl [Hc]; · iexact Hc
    isplitl [Hany] <;> iassumption
  iintro ⟨Hc, Hs, Hw, HO⟩
  rw [run_bind]
  iapply (wNext_spec m K J c b) $$ [Hc Htodo]
  · isplitr; · iexact Hctx
    isplitl [Hc] <;> iassumption
  iintro ⟨Hc, Htodo⟩
  iapply HQ
  isplitr [HO]
  · isplitl [Hback Hc]; · iapply Hback; iexact Hc
    isplitl [Hs Hsrc]; · isplitl [Hs] <;> iassumption
    isplitl [Hw H8]; · isplitl [Hw] <;> iassumption
    isplitl [Htodo] <;> iassumption
  iexact HO

/-- The permits of the first eight messages, both directions. -/
def perms (c : Dev nD) : sProp (MM F) := iprop((bigSep (Finset.range 8) fun n => permit c 0 n) ∗ bigSep (Finset.range 8) fun n => permit c 1 n)
instance perms_persistent (c : Dev nD) : BI.Persistent (perms (F := F) c) := by unfold perms; infer_instance

def seedSt (c : Dev nD) (b : ℕ) : sProp (MM F) :=
  iprop(perms c ∗ Wst m c b ∗ at_ c (x8R (chD c 0 0)) (X8 m c) ∗ at_ c (x8R (chD c 1 0)) (X8 m c) ∗ sends c 0 b ∗ sends c 1 b ∗ ow c (4 * b))

theorem off2_seed (c : Dev nD) : k0_off2 c 3#32 = ![(chD c 0 0).val * 1024, 0] ∧ k0_off2 c 1#32 = ![(chD c 1 0).val * 1024, 0] := by revert c; decide

theorem seedStep_spec (c : Dev nD) (b : Fin 8) (Q : PUnit → sProp (MM F)) :
    iprop(ctx m K J ∗ seedSt m c b.val) ⊢ iprop((seedSt m c (b.val + 1) -∗ Q ⟨⟩) -∗ run c (seedStep c b) Q) := by
  have hb := b.isLt
  have hq := bq_val b
  unfold seedStep seedSt
  iintro ⟨#Hctx, #Hp, HW, Hx0, Hx1, Hs0, Hs1, HO⟩ HQ
  iapply (wStep_spec m K J c b (4 * b.val)) $$ [HW HO]
  · isplitr; · iexact Hctx
    isplitl [HW] <;> iassumption
  unfold Wst
  rw [bigSep_Ico_succ_top (show 0 ≤ b.val by omega), bigSep_Ico_succ_top (show 0 ≤ b.val by omega)]
  rw [hq]
  iintro ⟨⟨Hc, Hsrc, ⟨Hw, H8⟩, Htodo, Hany⟩, HO⟩
  rw [run_bind]
  iapply (seedHalf_spec m K J c 0 b _ (k0_off2_inb c 0) (off2_seed c).1) $$ [Hx0 Hw Hs0 HO]
  · isplitr; · iexact Hctx
    isplitr
    · unfold perms; icases Hp with ⟨Hp0, -⟩
      iapply (big_mem (Φ := fun n => permit (F := F) c 0 n) (Finset.mem_range.mpr hb)); iexact Hp0
    isplitl [Hx0]; · iexact Hx0
    isplitl [Hw]; · iexact Hw
    isplitl [Hs0]; · iexact Hs0
    iexact HO
  iintro ⟨Hx0, Hw, Hs0, HO⟩
  iapply (seedHalf_spec m K J c 1 b _ (k0_off2_inb c 1) (off2_seed c).2) $$ [Hx1 Hw Hs1 HO]
  · isplitr; · iexact Hctx
    isplitr
    · unfold perms; icases Hp with ⟨-, Hp1⟩
      iapply (big_mem (Φ := fun n => permit (F := F) c 1 n) (Finset.mem_range.mpr hb)); iexact Hp1
    isplitl [Hx1]; · iexact Hx1
    isplitl [Hw]; · iexact Hw
    isplitl [Hs1]; · iexact Hs1
    iexact HO
  iintro ⟨Hx1, Hw, Hs1, HO⟩
  iapply HQ
  isplitr; · iexact Hp
  isplitl [Hc Hsrc Hw H8 Htodo Hany]
  · isplitl [Hc]; · iexact Hc
    isplitl [Hsrc]; · iexact Hsrc
    isplitl [Hw H8]; · isplitl [Hw] <;> iassumption
    isplitl [Htodo] <;> iassumption
  isplitl [Hx0]; · iexact Hx0
  isplitl [Hx1]; · iexact Hx1
  isplitl [Hs0]; · iexact Hs0
  isplitl [Hs1]; · iexact Hs1
  iexact HO

/-! ## The ring phases -/

/-- A ring step's half for message `n = 8 s + b`, `s` from 1: what was received with this device's product added, sent on. -/
theorem ringHalf_spec (c : Dev nD) (di : Fin 2) (n : ℕ) (b : Fin 8) (hb : b = bq n) (h8 : 8 ≤ n) (hn : n < 24) (Q : PUnit → sProp (MM F)) :
    iprop(ctx m K J ∗ sends c di n ∗ recvs c di (n - 8) ∗ creds m c di n ∗ ow c (4 * n + 2 * di.val))
      ⊢ iprop(((sends c di (n + 1) ∗ recvs c di (n + 1 - 8) ∗ creds m c di (n + 1) ∗ ow c (4 * n + 2 * di.val + 2)) -∗ Q ⟨⟩)
          -∗ run c (ringHalf c b di (prt m c (chD c di (n / 8)) b di)) Q) := by
  subst hb
  have hdi := di.isLt
  unfold ringHalf
  iintro ⟨#Hctx, Hs, Hr, Hc, HO⟩ HQ
  rw [run_bind]
  iapply (recv_spec m K J c di (n - 8) (4 * n + 2 * di.val) (bq n) (Fin.ext (by show n % 8 = (n - 8) % 8; omega)) (by omega) (by omega)) $$ [Hr HO]
  · isplitr; · iexact Hctx
    isplitl [Hr] <;> iassumption
  rw [if_pos (show n - 8 < 16 by omega), show n - 8 + 8 = n by omega, show n + 1 - 8 = n - 8 + 1 by omega]
  iintro ⟨Hr, HO, #Hgive⟩
  ihave Hs2 := (sends_take c di n hn) $$ Hs
  icases Hs2 with ⟨Hst, Htok, Hback⟩
  rw [run_bind]
  obtain ⟨k, hk⟩ : ∃ k, n / 4 = k + 1 := ⟨n / 4 - 1, by omega⟩
  rw [hk]
  iapply (wait_send_spec m K J c di (jq n) (prevOf (bq n)) k _ (by omega)) $$ [Hst HO]
  · isplitr; · iexact Hctx
    isplitl [Hst] <;> iassumption
  unfold sendFree
  iintro ⟨⟨Hat, Hre, Hslot⟩, HO⟩
  rw [run_bind]
  iapply (put_spec c di (jq n) _) $$ Hslot
  iintro Hslot
  iapply (crd_spec m K J c di n h8 hn) $$ [Hc HO]
  · isplitr; · iexact Hctx
    isplitl [Hc]; · iexact Hc
    isplitr; · iexact Hgive
    iexact HO
  iintro ⟨Hc, #Hp, HO⟩
  have hval : k0_pay32 (prt m c (chD c di (n / 8)) (bq n) di) (sent m di (bq n) ((n - 8) / 8) (upD c di)) = sent m di (bq n) (n / 8) c := by
    obtain ⟨s, hs⟩ : ∃ s, n / 8 = s + 1 := ⟨n / 8 - 1, by omega⟩
    rw [show (n - 8) / 8 = s by omega, hs]; rfl
  rw [hval]
  iapply (send_spec m K J c di n (bq n) rfl hn) $$ [Hslot Htok Hat Hre HO]
  · rw [hk]
    isplitr; · iexact Hctx
    isplitl [Hslot]; · iexact Hslot
    isplitr; · iexact Hp
    isplitl [Htok]; · iexact Htok
    isplitl [Hat]; · iexact Hat
    isplitl [Hre]; · iexact Hre
    iexact HO
  rw [hk]
  iintro ⟨Hst, HO⟩
  iapply HQ
  isplitl [Hback Hst]; · iapply Hback; iexact Hst
  isplitl [Hr]; · iexact Hr
  isplitl [Hc]; · iexact Hc
  iexact HO

/-- The three chunks of the cast `x` that the messages need. -/
def xs8 (c : Dev nD) : sProp (MM F) :=
  iprop(at_ c (x8R (chD c 0 0)) (X8 m c) ∗ at_ c (x8R (chD c 1 0)) (X8 m c) ∗ at_ c (x8R (c + 2)) (X8 m c))
theorem xs8_take (c : Dev nD) (di : Fin 2) (s : ℕ) (h1 : 1 ≤ s) (h2 : s ≤ 2) :
    xs8 m c ⊢ iprop(at_ c (x8R (chD c di s)) (X8 m c) ∗ (at_ c (x8R (chD c di s)) (X8 m c) -∗ xs8 m c)) := by
  unfold xs8
  rcases (show s = 1 ∨ s = 2 by omega) with rfl | rfl
  · rw [show chD c di 1 = c + 2 from rfl]
    iintro ⟨H0, H1, H2⟩
    isplitl [H2]; · iexact H2
    iintro H2
    isplitl [H0]; · iexact H0
    isplitl [H1] <;> iassumption
  · rcases (show di = 0 ∨ di = 1 by revert di; decide) with rfl | rfl
    · rw [show chD c 0 2 = chD c 1 0 from rfl]
      iintro ⟨H0, H1, H2⟩
      isplitl [H1]; · iexact H1
      iintro H1
      isplitl [H0]; · iexact H0
      isplitl [H1] <;> iassumption
    · rw [show chD c 1 2 = chD c 0 0 from rfl]
      iintro ⟨H0, H1, H2⟩
      isplitl [H0]; · iexact H0
      iintro H0
      isplitl [H0]; · iexact H0
      isplitl [H1] <;> iassumption

def w8all (c : Dev nD) : sProp (MM F) := bigSep (Finset.Ico 0 8) fun n => at_ c (w8R (bq n)) (W8 m c)
theorem w8_take (c : Dev nD) (b : Fin 8) : w8all m c ⊢ iprop(at_ c (w8R b) (W8 m c) ∗ (at_ c (w8R b) (W8 m c) -∗ w8all m c)) := by
  unfold w8all
  rw [big_out (i := b.val) (Finset.mem_Ico.mpr ⟨Nat.zero_le _, b.isLt⟩), bq_val]
  iintro ⟨H, Hr⟩
  isplitl [H]; · iexact H
  iintro H
  isplitl [H] <;> iassumption

/-- The half product of block `b` with the chunk of ring step `s`. -/
theorem part_ring (c : Dev nD) (di : Fin 2) (s : ℕ) (h1 : 1 ≤ s) (h2 : s ≤ 2) (b : Fin 8) (o : Fin 2 → ℕ) (h : ∀ a, o a + S1024x1024.size a ≤ S4096x1024.size a)
    (ho : o = ![(chD c di s).val * 1024, 0]) (Q : FVec F S1024x512 .f32 → sProp (MM F)) :
    iprop(xs8 m c ∗ w8all m c) ⊢ iprop(((xs8 m c ∗ w8all m c) -∗ Q (prt m c (chD c di s) b di)) -∗ run c (partOf o h b di) Q) := by
  iintro ⟨Hx, Hw⟩ HQ
  ihave Hx2 := (xs8_take m c di s h1 h2) $$ Hx
  icases Hx2 with ⟨Hx, Hxb⟩
  ihave Hw2 := (w8_take m c b) $$ Hw
  icases Hw2 with ⟨Hw, Hwb⟩
  iapply (part_spec m c (chD c di s) o h ho b di) $$ [Hx Hw]
  · isplitl [Hx] <;> iassumption
  iintro ⟨Hx, Hw⟩
  iapply HQ
  isplitl [Hx Hxb]; · iapply Hxb; iexact Hx
  iapply Hwb; iexact Hw

def ringSt (c : Dev nD) (n : ℕ) : sProp (MM F) :=
  iprop(xs8 m c ∗ w8all m c ∗ (sends c 0 n ∗ recvs c 0 (n - 8) ∗ creds m c 0 n) ∗ (sends c 1 n ∗ recvs c 1 (n - 8) ∗ creds m c 1 n) ∗ ow c (4 * n))

theorem ringStep_spec (c : Dev nD) (s : ℕ) (h1 : 1 ≤ s) (h2 : s ≤ 2) (b : Fin 8)
    (o₀ : Fin 2 → ℕ) (h₀ : ∀ a, o₀ a + S1024x1024.size a ≤ S4096x1024.size a) (ho₀ : o₀ = ![(chD c 0 s).val * 1024, 0])
    (o₁ : Fin 2 → ℕ) (h₁ : ∀ a, o₁ a + S1024x1024.size a ≤ S4096x1024.size a) (ho₁ : o₁ = ![(chD c 1 s).val * 1024, 0]) (Q : PUnit → sProp (MM F)) :
    iprop(ctx m K J ∗ ringSt m c (8 * s + b.val)) ⊢ iprop((ringSt m c (8 * s + (b.val + 1)) -∗ Q ⟨⟩) -∗ run c (ringStep c o₀ h₀ o₁ h₁ b) Q) := by
  have hb := b.isLt
  have hs : (8 * s + b.val) / 8 = s := by omega
  unfold ringStep ringSt
  iintro ⟨#Hctx, Hx, Hw, ⟨Hs0, Hr0, Hc0⟩, ⟨Hs1, Hr1, Hc1⟩, HO⟩ HQ
  rw [run_bind]
  iapply (part_ring m c 0 s h1 h2 b o₀ h₀ ho₀) $$ [Hx Hw]
  · isplitl [Hx] <;> iassumption
  iintro ⟨Hx, Hw⟩
  rw [run_bind]
  iapply (part_ring m c 1 s h1 h2 b o₁ h₁ ho₁) $$ [Hx Hw]
  · isplitl [Hx] <;> iassumption
  iintro ⟨Hx, Hw⟩
  have R := fun di Q => ringHalf_spec m K J c di (8 * s + b.val) b (bq_add s b).symm (by omega) (by omega) Q
  simp only [hs] at R
  rw [run_bind]
  iapply (R 0 _) $$ [Hs0 Hr0 Hc0 HO]
  · isplitr; · iexact Hctx
    isplitl [Hs0]; · iexact Hs0
    isplitl [Hr0]; · iexact Hr0
    isplitl [Hc0]; · iexact Hc0
    iexact HO
  iintro ⟨Hs0, Hr0, Hc0, HO⟩
  iapply (R 1 _) $$ [Hs1 Hr1 Hc1 HO]
  · isplitr; · iexact Hctx
    isplitl [Hs1]; · iexact Hs1
    isplitl [Hr1]; · iexact Hr1
    isplitl [Hc1]; · iexact Hc1
    iexact HO
  iintro ⟨Hs1, Hr1, Hc1, HO⟩
  iapply HQ
  isplitl [Hx]; · iexact Hx
  isplitl [Hw]; · iexact Hw
  isplitl [Hs0 Hr0 Hc0]
  · isplitl [Hs0]; · iexact Hs0
    isplitl [Hr0] <;> iassumption
  isplitl [Hs1 Hr1 Hc1]
  · isplitl [Hs1]; · iexact Hs1
    isplitl [Hr1] <;> iassumption
  iexact HO

/-! ## The last phase -/

def cst (c : Dev nD) : ℕ → sProp (MM F)
  | 0 => cFree c 0
  | b + 1 => cFly c b

def lastSt (c : Dev nD) (b : ℕ) : sProp (MM F) :=
  iprop(at_ c (x8R c) (X8 m c) ∗ w8all m c ∗ recvs c 0 (16 + b) ∗ recvs c 1 (16 + b) ∗ cst c b
    ∗ (bigSep (Finset.Ico 0 (b - 1)) fun n => at_ c (oC (bq n)) (OUT m c))
    ∗ (bigSep (Finset.Ico b 8) fun n => iprop(any_ c (oC (bq n)) ∗ dutyTok ER (cell c .copy) n 0)) ∗ ow c 96)

theorem off5_eq (c : Dev nD) : k0_off5 c = ![(c : Fin 4).val * 1024, 0] := by revert c; decide

theorem lastStep_spec (c : Dev nD) (b : Fin 8) (Q : PUnit → sProp (MM F)) :
    iprop(ctx m K J ∗ lastSt m c b.val) ⊢ iprop((lastSt m c (b.val + 1) -∗ Q ⟨⟩) -∗ run c (lastStep c (gs m c) b) Q) := by
  have hb := b.isLt
  have hq := bq_val b
  have hq16 : b = bq (16 + b.val) := (bq_add 2 b).symm
  have h2 : (16 + b.val) / 8 = 2 := by omega
  unfold lastStep lastSt
  rw [bigSep_Ico_succ_bot (a := b.val) (b := 8) hb]
  simp only [hq]
  iintro ⟨#Hctx, Hx, Hw, Hr0, Hr1, Hc, Hdone, ⟨⟨Ho, Hd⟩, Htodo⟩, HO⟩ HQ
  ihave Hw2 := (w8_take m c b) $$ Hw
  icases Hw2 with ⟨Hw, Hwb⟩
  rw [run_bind]
  iapply (part_spec m c c _ (k0_off5_inb c) (off5_eq c) b 0) $$ [Hx Hw]
  · isplitl [Hx] <;> iassumption
  iintro ⟨Hx, Hw⟩
  rw [run_bind]
  iapply (part_spec m c c _ (k0_off5_inb c) (off5_eq c) b 1) $$ [Hx Hw]
  · isplitl [Hx] <;> iassumption
  iintro ⟨Hx, Hw⟩
  ihave Hw := Hwb $$ Hw
  rw [run_bind]
  iapply (recv_spec m K J c 0 (16 + b.val) 96 b hq16 (by omega) (by show 4 * (16 + b.val) + 2 * 0 + 3 ≤ 97; omega)) $$ [Hr0 HO]
  · isplitr; · iexact Hctx
    isplitl [Hr0] <;> iassumption
  rw [h2]
  iintro ⟨Hr0, HO, -⟩
  rw [run_bind]
  iapply (recv_spec m K J c 1 (16 + b.val) 96 b hq16 (by omega) (by show 4 * (16 + b.val) + 2 * 1 + 3 ≤ 97; omega)) $$ [Hr1 HO]
  · isplitr; · iexact Hctx
    isplitl [Hr1] <;> iassumption
  rw [h2]
  iintro ⟨Hr1, HO, -⟩
  rw [run_bind]
  -- the copy before
  have hcopy : ∀ R : PUnit → sProp (MM F), iprop(ctx m K J ∗ cst c b.val ∗ (bigSep (Finset.Ico 0 (b.val - 1)) fun n => at_ c (oC (bq n)) (OUT m c)) ∗ ow c 96)
      ⊢ iprop(((cFree c b.val ∗ (bigSep (Finset.Ico 0 b.val) fun n => at_ c (oC (bq n)) (OUT m c)) ∗ ow c 96) -∗ R ⟨⟩)
          -∗ run c (if hb : 0 < b.val then waitCopy ⟨b.val - 1, Nat.lt_of_le_of_lt (Nat.sub_le _ _) b.isLt⟩ else pure ⟨⟩) R) := by
    intro R
    by_cases h0 : 0 < b.val
    · obtain ⟨k, hk⟩ : ∃ k, b.val = k + 1 := ⟨b.val - 1, by omega⟩
      have hk8 : k < 8 := by omega
      rw [dif_pos h0]
      have hbk : (⟨b.val - 1, Nat.lt_of_le_of_lt (Nat.sub_le _ _) b.isLt⟩ : Fin 8) = ⟨k, hk8⟩ := Fin.ext (by show b.val - 1 = k; omega)
      rw [hbk, hk, Nat.add_sub_cancel, bigSep_Ico_succ_top (Nat.zero_le k), show bq k = ⟨k, hk8⟩ from bq_val ⟨k, hk8⟩]
      unfold cst
      iintro ⟨#Hctx, Hc, Hdone, HO⟩ HR
      iapply (wait_copy_spec m K J c ⟨k, hk8⟩ 96) $$ [Hc HO]
      · isplitr; · iexact Hctx
        isplitl [Hc] <;> iassumption
      iintro ⟨Hc, Ho, HO⟩
      iapply HR
      isplitl [Hc]; · iexact Hc
      isplitl [Ho Hdone]; · isplitl [Ho] <;> iassumption
      iexact HO
    · rw [dif_neg h0, show b.val = 0 by omega]
      unfold cst
      iintro ⟨-, Hc, Hdone, HO⟩ HR
      iapply (run_pure c PUnit.unit R)
      iapply HR
      isplitl [Hc]; · iexact Hc
      isplitl [Hdone] <;> iassumption
  iapply (hcopy _) $$ [Hc Hdone HO]
  · isplitr; · iexact Hctx
    isplitl [Hc]; · iexact Hc
    isplitl [Hdone] <;> iassumption
  iintro ⟨Hc, Hdone, HO⟩
  iapply (copy_out_spec m K J c b (fun x => .ret x) Q) $$ [Hc Ho Hd]
  · isplitr; · iexact Hctx
    isplitl [Hc]; · iexact Hc
    isplitl [Ho] <;> iassumption
  iintro Hc
  simp only [wp_ret]
  imodintro
  iapply HQ
  isplitl [Hx]; · iexact Hx
  isplitl [Hw]; · iexact Hw
  isplitl [Hr0]; · iexact Hr0
  isplitl [Hr1]; · iexact Hr1
  isplitl [Hc]; · unfold cst; iexact Hc
  isplitl [Hdone]; · iexact Hdone
  isplitl [Htodo] <;> iassumption

end Cert.RingProof

end
-- ==== Proof.Open.lean ====
/-
  The opening of a device's run: the landing slots released, the barrier with both neighbours, the first chunks fetched and cast.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : GSem nD τ sig → ℕ) (J : Key → ℕ)

/-! ## The four chunks of `x` -/

theorem xq_univ (c : Dev nD) : (Finset.univ : Finset (Fin 4)) = {xq c 0 0, xq c 1 0, xq c 0 1, xq c 1 1} := by revert c; decide
theorem xq_split (c : Dev nD) (Φ : Fin 4 → sProp (MM F)) :
    bigSep Finset.univ Φ = iprop(Φ (xq c 0 0) ∗ Φ (xq c 1 0) ∗ Φ (xq c 0 1) ∗ Φ (xq c 1 1)) := by
  rw [xq_univ c, bigSep_insert (by revert c; decide), bigSep_insert (by revert c; decide), bigSep_insert (by revert c; decide), bigSep_singleton]
  rfl

/-- The rows that the kernel's offsets name are those chunks. -/
theorem off1_eq (c : Dev nD) : k0_off1 c 3#32 = ![(xq c 0 0).val * 1024, 0] ∧ k0_off1 c 1#32 = ![(xq c 1 0).val * 1024, 0]
    ∧ k0_off1 c 2#32 = ![(xq c 0 1).val * 1024, 0] ∧ k0_off3 c = ![(xq c 1 1).val * 1024, 0] := by revert c; decide
theorem off2_eq (c : Dev nD) : k0_off2 c 3#32 = ![(xq c 0 0).val * 1024, 0] ∧ k0_off2 c 1#32 = ![(xq c 1 0).val * 1024, 0]
    ∧ k0_off2 c 2#32 = ![(xq c 0 1).val * 1024, 0] ∧ k0_off5 c = ![(xq c 1 1).val * 1024, 0] := by revert c; decide
theorem off_ring (c : Dev nD) : k0_off2 c 6#32 = ![(chD c 0 1).val * 1024, 0] ∧ k0_off4 c 1#32 = ![(chD c 1 1).val * 1024, 0]
    ∧ k0_off2 c 5#32 = ![(chD c 0 2).val * 1024, 0] ∧ k0_off4 c 2#32 = ![(chD c 1 2).val * 1024, 0] := by revert c; decide

/-! ## The landing slots released for the first time -/

/-- A landing slot as launched, and all eight of a direction with the credit for the messages to come. -/
def slot0 (c : Dev nD) (di : Fin 2) (b : Fin 8) : sProp (MM F) :=
  iprop(atPos ER (cell c (.recv di b)) 0 ∅ 0 ∗ reached ER (cell c (.recv di b)) 0 ∗ Release.readerAt ES (c, di, b) 0 ∗ any_ c (rcS di b))
def slots0 (c : Dev nD) (di : Fin 2) : sProp (MM F) :=
  iprop((bigSep Finset.univ (slot0 c di)) ∗ bigSep (Finset.Ico 0 24) (rcvTok c di))

theorem slot0_release (c : Dev nD) (di : Fin 2) (b : Fin 8) :
    iprop(ctx m K J ∗ slot0 c di b) ⊢ (|={Set.univ}=> iprop(recvSt c di b 0 ∗ permit (upD c di) di b.val) : sProp (MM F)) := by
  have hb := b.isLt
  unfold slot0 recvSt permit
  rw [dst_up, bq_val, show b.val / 8 = 0 by omega, if_pos (by decide)]
  iintro ⟨#Hctx, Hat, #Hre, Hrd, Hs⟩
  imod (Release.slot_release (ι := J (c, di, b)) (k := (c, di, b)) (S := any_ c (rcS di b)) ES (Set.mem_univ _) (rc_excl c di b) 0) $$ [Hrd Hs] with ⟨Hrd, #Hrel⟩
  · isplitr; · iapply (ctx_slot m K J (c, di, b)); iexact Hctx
    isplitl [Hrd] <;> iassumption
  imodintro
  isplitl [Hat Hrd]; · isplitl [Hat] <;> iassumption
  isplitr; · iexact Hrel
  iexact Hre

theorem slots0_release (c : Dev nD) (di : Fin 2) :
    iprop(ctx m K J ∗ slots0 c di) ⊢ (|={Set.univ}=> iprop(recvs c di 0 ∗ bigSep (Finset.range 8) fun n => permit (upD c di) di n) : sProp (MM F)) := by
  have h1 : iprop(ctx m K J ∗ bigSep Finset.univ (slot0 (F := F) c di))
      ⊢ (|={Set.univ}=> bigSep Finset.univ fun b => iprop(recvSt c di b 0 ∗ permit (upD c di) di b.val) : sProp (MM F)) :=
    (bigSep_with_persistent fun b _ => slot0_release m K J c di b).trans (bigSep_fupd _ _)
  unfold slots0 recvs
  iintro ⟨#Hctx, Hs, Hc⟩
  imod h1 $$ [Hs] with H
  · isplitr; · iexact Hctx
    iexact Hs
  ihave H2 := (Entails.of_eq (bigSep_sep' (s := Finset.univ) (Φ := fun b : Fin 8 => recvSt (F := F) c di b 0) (Ψ := fun b : Fin 8 => permit (F := F) (upD c di) di b.val))) $$ H
  icases H2 with ⟨H, #Hp⟩
  imodintro
  isplitl [H Hc]
  · isplitl [H]
    · iapply (Entails.of_eq (show (bigSep Finset.univ fun b : Fin 8 => recvSt (F := F) c di b 0) = bigSep Finset.univ fun b : Fin 8 => recvSt (F := F) c di b ((0 + 7 - b.val) / 8) from
        bigSep_congr fun b _ => by rw [show (0 + 7 - b.val) / 8 = 0 by omega]))
      iexact H
    iexact Hc
  · have h2 : (bigSep Finset.univ fun b : Fin 8 => permit (F := F) (upD c di) di b.val) ⊢ bigSep (Finset.range 8) fun n => permit (F := F) (upD c di) di n :=
      bigSep_intro_persistent fun n hn => by
        have h3 := big_mem (Φ := fun b : Fin 8 => permit (F := F) (upD c di) di b.val) (Finset.mem_univ ⟨n, Finset.mem_range.mp hn⟩)
        exact h3
    iapply h2
    iexact Hp

/-! ## The opening -/

/-- The credit cells that a device pays into are open. -/
def meets (c : Dev nD) : sProp (MM F) :=
  iprop(reached ER (cell (upD c 0) (.credit 0)) 0 ∗ reached ER (cell (upD c 1) (.credit 1)) 0)
instance meets_persistent (c : Dev nD) : BI.Persistent (meets (F := F) c) := by unfold meets; infer_instance

/-- What the barrier takes: the position and credit of the own cell, one duty of each neighbour's, and that the own credit cells are open. -/
def bar0 (c : Dev nD) : sProp (MM F) :=
  iprop(atPos ER (cell c .bar) 0 ∅ 0 ∗ cred (tallyAt (cell c .bar) 0 2) ∗ (dutyTok ER (cell (lf c) .bar) 0 0 ∗ reached ER (cell (lf c) .bar) 0)
    ∗ (dutyTok ER (cell (rt c) .bar) 0 1 ∗ reached ER (cell (rt c) .bar) 0)
    ∗ reached ER (cell c (.credit 0)) 0 ∗ reached ER (cell c (.credit 1)) 0)
/-- What a device owes as launched. -/
def owed0 (c : Dev nD) : CellTallies nD τ sig ℕ := owed c 0 + tallyAt (cell (rt c) .bar) 0 1 + tallyAt (cell (lf c) .bar) 0 1

theorem bar_spec (c : Dev nD) {α : Type} (kt : PUnit → Pg F α) (Q : α → sProp (MM F)) :
    iprop(ctx m K J ∗ slots0 c 0 ∗ slots0 c 1 ∗ bar0 c ∗ ∃ W, owes (c : Thread nD τ) (owed0 c) W)
      ⊢ iprop(((recvs c 0 0 ∗ recvs c 1 0 ∗ perms c ∗ meets c ∗ atPos ER (cell c .bar) 1 ∅ 0 ∗ ow c 0) -∗ run c (kt ⟨⟩) Q)
          -∗ run c (semSignalWord (lf c) barS 1#32 >>= fun _ => semSignalWord (rt c) barS 1#32 >>= fun _ => semWaitWord barS 2#32 >>= kt) Q) := by
  unfold bar0 owed0 ow perms meets
  iintro ⟨#Hctx, Hs0, Hs1, ⟨Hat, Hc, ⟨Hdl, Hrl⟩, ⟨Hdr, Hrr⟩, Hc0, Hc1⟩, ⟨%W, HO⟩⟩ HQ
  imod (slots0_release m K J c 0) $$ [Hs0] with ⟨Hs0, Hp0⟩
  · isplitr; · iexact Hctx
    iexact Hs0
  imod (slots0_release m K J c 1) $$ [Hs1] with ⟨Hs1, Hp1⟩
  · isplitr; · iexact Hctx
    iexact Hs1
  simp only [wp_bind, semSignalWord, semWaitWord]
  iapply (Rounds.wp_signal 𝒱₀ ER (Rd m) (c : Thread nD τ) none (dst := (lf c : Thread nD τ)) (sem := barS) (r := 0) (d := 0) (k' := 1) (κ := K (cell (lf c) .bar))
    (by rw [show ((lf c : Thread nD τ), SemLoc.reg barS) = cell (lf c) .bar from rfl, duties_eq m (lf c) .bar (by simp) 0 Nat.one_pos]; decide)
    (amount_eq m (lf c) .bar (by simp) _ _) 0 (O₀ := owed c 0 + tallyAt (cell (rt c) .bar) 0 1 + tallyAt (cell (lf c) .bar) 0 1)
      (owed c 0 + tallyAt (cell (rt c) .bar) 0 1) rfl) $$ [HO Hdl Hrl Hp0 Hc1]
  · isplitr; · iapply (ctx_cell m K J (lf c) .bar); iexact Hctx
    isplitl [HO]; · iexact HO
    isplitl [Hdl]; · iexact Hdl
    isplitl [Hp0 Hc1]
    · rw [show ((lf c : Thread nD τ), SemLoc.reg barS) = cell (lf c) .bar from rfl, payload_eq m (lf c) .bar (by simp)]
      iapply (Entails.of_eq (show iprop((bigSep (Finset.range 8) fun n => permit (F := F) (upD c 0) 0 n) ∗ reached ER (cell (dstD (upD c 0) 0) (.credit 1)) 0) = pay m (lf c) .bar 0 0 from rfl))
      rw [dst_up]
      isplitl [Hp0] <;> iassumption
    iexact Hrl
  iintro HO
  simp only [wp_ret]
  imodintro
  iapply (Rounds.wp_signal 𝒱₀ ER (Rd m) (c : Thread nD τ) none (dst := (rt c : Thread nD τ)) (sem := barS) (r := 0) (d := 1) (k' := 1) (κ := K (cell (rt c) .bar))
    (by rw [show ((rt c : Thread nD τ), SemLoc.reg barS) = cell (rt c) .bar from rfl, duties_eq m (rt c) .bar (by simp) 0 Nat.one_pos]; decide)
    (amount_eq m (rt c) .bar (by simp) _ _) 0 (O₀ := owed c 0 + tallyAt (cell (rt c) .bar) 0 1)
      (owed c 0) rfl) $$ [HO Hdr Hrr Hp1 Hc0]
  · isplitr; · iapply (ctx_cell m K J (rt c) .bar); iexact Hctx
    isplitl [HO]; · iexact HO
    isplitl [Hdr]; · iexact Hdr
    isplitl [Hp1 Hc0]
    · rw [show ((rt c : Thread nD τ), SemLoc.reg barS) = cell (rt c) .bar from rfl, payload_eq m (rt c) .bar (by simp)]
      iapply (Entails.of_eq (show iprop((bigSep (Finset.range 8) fun n => permit (F := F) (upD c 1) 1 n) ∗ reached ER (cell (dstD (upD c 1) 1) (.credit 0)) 0) = pay m (rt c) .bar 0 1 from rfl))
      rw [dst_up]
      isplitl [Hp1] <;> iassumption
    iexact Hrr
  iintro HO
  simp only [wp_ret]
  imodintro
  iapply (Rounds.wp_wait_rest_token 𝒱₀ ER (Rd m) (c : Thread nD τ) none (κ := K (cell c .bar)) (sm := sm .bar) (k' := 2)
      (show ∀ Q : PUnit → sProp (MM F), _ = waitSpec (c : Thread nD τ) Set.univ (.reg barS) 2 Q from wpE_semWait_eq 𝒱₀ (c : Thread nD τ) none Set.univ)
      (Set.mem_univ _) 0 (O := owed c 0) (W := W) (R := 0) (m := 0) (T := ∅) (by rw [expect_eq m c .bar (by simp) 0 Nat.one_pos]; rfl)) $$ [Hc HO Hat]
  · isplitr; · iapply (ctx_cell m K J c .bar); iexact Hctx
    isplitl [Hc]; · iexact Hc
    isplitl [HO]; · iexact HO
    isplitr; · iapply (mayWait c .bar (by simp) 0 0 (by decide) (by decide)); iapply (ctx_lev m K J); iexact Hctx
    iexact Hat
  iintro ⟨HO, Hat, -, Hpay⟩
  have hpay : bigSep ((Rd m).duties (c, sm .bar) 0 \ ∅) (fun d => (Rd m).payload (c, sm .bar) 0 d) ⊢ (iprop(((bigSep (Finset.range 8) fun n => permit c 0 n) ∗ reached ER (cell (upD c 1) (.credit 1)) 0) ∗ (bigSep (Finset.range 8) fun n => permit c 1 n) ∗ reached ER (cell (upD c 0) (.credit 0)) 0) : sProp (MM F)) := by
    rw [Finset.sdiff_empty, duties_eq m c .bar (by simp) 0 Nat.one_pos, show dset .bar = ({0, 1} : Finset ℕ) from rfl, bigSep_insert (by decide), bigSep_singleton,
      payload_eq m c .bar (by simp), payload_eq m c .bar (by simp)]
    exact Entails.rfl
  ihave Hp := hpay $$ Hpay
  icases Hp with ⟨⟨Hp0, Hc1⟩, Hp1, Hc0⟩
  simp only [wp_ret]
  imodintro
  iapply HQ
  isplitl [Hs0]; · iexact Hs0
  isplitl [Hs1]; · iexact Hs1
  isplitl [Hp0 Hp1]; · isplitl [Hp0] <;> iassumption
  isplitl [Hc0 Hc1]; · isplitl [Hc0] <;> iassumption
  isplitl [Hat]; · iexact Hat
  iexists _; iexact HO

/-- What the opening takes, and what it leaves. -/
def openPre (c : Dev nD) : sProp (MM F) :=
  iprop((bigSep Finset.univ fun q : Fin 4 => at_ c (xR q) (XA m c)) ∗ (bigSep Finset.univ fun q : Fin 4 => any_ c (x8R q)) ∗ wTodo m c 0
    ∗ (xFree c 0 0 ∗ xFree c 1 0 ∗ wFree c 0 0 ∗ wFree c 1 0)
    ∗ (dutyTok ER (cell c (.xd 0)) 0 0 ∗ dutyTok ER (cell c (.xd 1)) 0 0 ∗ dutyTok ER (cell c (.xd 0)) 1 0 ∗ dutyTok ER (cell c (.xd 1)) 1 0)
    ∗ slots0 c 0 ∗ slots0 c 1 ∗ bar0 c ∗ ∃ W, owes (c : Thread nD τ) (owed0 c) W)
def openPost (c : Dev nD) : sProp (MM F) :=
  iprop((at_ c (xR (xq c 0 0)) (XA m c) ∗ at_ c (xR (xq c 1 0)) (XA m c))
    ∗ (at_ c (x8R (xq c 0 0)) (X8 m c) ∗ at_ c (x8R (xq c 1 0)) (X8 m c) ∗ any_ c (x8R (xq c 0 1)) ∗ any_ c (x8R (xq c 1 1))) ∗ wTodo m c 2
    ∗ (xFly c 0 1 ∗ xFly c 1 1 ∗ wFly c 0 0 ∗ wFly c 1 0)
    ∗ recvs c 0 0 ∗ recvs c 1 0 ∗ perms c ∗ meets c ∗ atPos ER (cell c .bar) 1 ∅ 0 ∗ ow c 0)

theorem wTodo_two (c : Dev nD) : wTodo m c 0 = iprop((at_ c (wC 0) (WA m c) ∗ dutyTok ER (cell c (.wd (par 0))) 0 0) ∗ (at_ c (wC 1) (WA m c) ∗ dutyTok ER (cell c (.wd (par 1))) 0 0) ∗ wTodo m c 2) := by
  unfold wTodo
  rw [bigSep_Ico_succ_bot (show 0 < 8 by decide), bigSep_Ico_succ_bot (show 0 + 1 < 8 by decide)]
  rfl

theorem opening_spec (c : Dev nD) (Q : PUnit → sProp (MM F)) :
    iprop(ctx m K J ∗ openPre m c) ⊢ iprop((openPost m c -∗ Q ⟨⟩) -∗ run c (opening c) Q) := by
  obtain ⟨o1, o2, o3, o4⟩ := off1_eq c
  obtain ⟨p1, p2, -, -⟩ := off2_eq c
  unfold openPre openPost opening
  rw [xq_split c, xq_split c, wTodo_two]
  iintro ⟨#Hctx, ⟨Hx0, Hx1, Hx2, Hx3⟩, ⟨H80, H81, H82, H83⟩, ⟨⟨Hw0, Hd0⟩, ⟨Hw1, Hd1⟩, Htodo⟩, ⟨Hxf0, Hxf1, Hwf0, Hwf1⟩, ⟨Hxd00, Hxd10, Hxd01, Hxd11⟩, Hs0, Hs1, Hb, HO⟩ HQ
  rw [run_bind]
  iapply (xFetch_spec m K J c 0 0 (by decide) _ _ o1) $$ [Hxf0 Hx0 Hxd00]
  · isplitr; · iexact Hctx
    isplitl [Hxf0]; · iexact Hxf0
    isplitl [Hx0] <;> iassumption
  iintro Hxf0
  rw [run_bind]
  iapply (xFetch_spec m K J c 1 0 (by decide) _ _ o2) $$ [Hxf1 Hx1 Hxd10]
  · isplitr; · iexact Hctx
    isplitl [Hxf1]; · iexact Hxf1
    isplitl [Hx1] <;> iassumption
  iintro Hxf1
  rw [run_bind]
  iapply (wFetch_spec m K J c 0 0 rfl) $$ [Hwf0 Hw0 Hd0]
  · isplitr; · iexact Hctx
    isplitl [Hwf0]; · iexact Hwf0
    isplitl [Hw0] <;> iassumption
  iintro Hwf0
  rw [run_bind]
  iapply (wFetch_spec m K J c 0 1 rfl) $$ [Hwf1 Hw1 Hd1]
  · isplitr; · iexact Hctx
    isplitl [Hwf1]; · iexact Hwf1
    isplitl [Hw1] <;> iassumption
  iintro Hwf1
  iapply (bar_spec m K J c) $$ [Hs0 Hs1 Hb HO]
  · isplitr; · iexact Hctx
    isplitl [Hs0]; · iexact Hs0
    isplitl [Hs1]; · iexact Hs1
    isplitl [Hb] <;> iassumption
  iintro ⟨Hs0, Hs1, Hp, Hmt, Hb, HO⟩
  rw [run_bind]
  iapply (xCast_spec m K J c 0 0 0 (by decide) _ _ _ _ _ p1) $$ [Hxf0 H80 HO]
  · isplitr; · iexact Hctx
    isplitl [Hxf0]; · iexact Hxf0
    isplitl [H80] <;> iassumption
  iintro ⟨Hxf0, Hx0, H80, HO⟩
  rw [run_bind]
  iapply (xCast_spec m K J c 1 0 0 (by decide) _ _ _ _ _ p2) $$ [Hxf1 H81 HO]
  · isplitr; · iexact Hctx
    isplitl [Hxf1]; · iexact Hxf1
    isplitl [H81] <;> iassumption
  iintro ⟨Hxf1, Hx1, H81, HO⟩
  rw [run_bind]
  iapply (xFetch_spec m K J c 0 1 (by decide) _ _ o3) $$ [Hxf0 Hx2 Hxd01]
  · isplitr; · iexact Hctx
    isplitl [Hxf0]; · iexact Hxf0
    isplitl [Hx2] <;> iassumption
  iintro Hxf0
  iapply (xFetch_spec m K J c 1 1 (by decide) _ _ o4) $$ [Hxf1 Hx3 Hxd11]
  · isplitr; · iexact Hctx
    isplitl [Hxf1]; · iexact Hxf1
    isplitl [Hx3] <;> iassumption
  iintro Hxf1
  iapply HQ
  isplitl [Hx0 Hx1]; · isplitl [Hx0] <;> iassumption
  isplitl [H80 H81 H82 H83]
  · isplitl [H80]; · iexact H80
    isplitl [H81]; · iexact H81
    isplitl [H82] <;> iassumption
  isplitl [Htodo]; · iexact Htodo
  isplitl [Hxf0 Hxf1 Hwf0 Hwf1]
  · isplitl [Hxf0]; · iexact Hxf0
    isplitl [Hxf1]; · iexact Hxf1
    isplitl [Hwf0]
    · iapply (Entails.of_eq (show (wFly c (par 0) 0 : sProp (MM F)) = wFly c 0 0 from rfl)); iexact Hwf0
    iapply (Entails.of_eq (show (wFly c (par 1) 0 : sProp (MM F)) = wFly c 1 0 from rfl)); iexact Hwf1
  isplitl [Hs0]; · iexact Hs0
  isplitl [Hs1]; · iexact Hs1
  isplitl [Hp]; · iexact Hp
  isplitl [Hmt]; · iexact Hmt
  isplitl [Hb]; · iexact Hb
  iexact HO

end Cert.RingProof

end
-- ==== Proof.Walk.lean ====
/-
  The whole run of a device: from the launched state through the opening, the four phases of eight blocks and the closing, and every
  counter of the region back at zero.
-/
module

public import proofs.«01_k».proof.Proof.Open

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : GSem nD τ sig → ℕ) (J : Key → ℕ)

/-! ## The purposes, listed -/

def kdAll : Finset Kd := Finset.univ.erase .none

theorem kd_list : kdAll = ({.bar, .copy, .credit 0, .credit 1, .xd 0, .xd 1, .wd 0, .wd 1} : Finset Kd) ∪ (Finset.univ.image (Kd.send 0) ∪ (Finset.univ.image (Kd.send 1)
    ∪ (Finset.univ.image (Kd.recv 0) ∪ Finset.univ.image (Kd.recv 1)))) := by decide

theorem kd_split (Φ : Kd → sProp (MM F)) :
    bigSep kdAll Φ = iprop((Φ .bar ∗ Φ .copy ∗ Φ (.credit 0) ∗ Φ (.credit 1) ∗ Φ (.xd 0) ∗ Φ (.xd 1) ∗ Φ (.wd 0) ∗ Φ (.wd 1))
      ∗ (bigSep Finset.univ fun j => Φ (.send 0 j)) ∗ (bigSep Finset.univ fun j => Φ (.send 1 j))
      ∗ (bigSep Finset.univ fun b => Φ (.recv 0 b)) ∗ bigSep Finset.univ fun b => Φ (.recv 1 b)) := by
  have hs : ∀ di : Fin 2, bigSep (Finset.univ.image (Kd.send di)) Φ = bigSep Finset.univ fun j => Φ (.send di j) := fun di =>
    bigSep_image_of_injOn (f := Kd.send di) (by intro a _ b _ h; injection h) Φ
  have hr : ∀ di : Fin 2, bigSep (Finset.univ.image (Kd.recv di)) Φ = bigSep Finset.univ fun b => Φ (.recv di b) := fun di =>
    bigSep_image_of_injOn (f := Kd.recv di) (by intro a _ b _ h; injection h) Φ
  rw [kd_list, bigSep_union (by decide), bigSep_union (by decide), bigSep_union (by decide), bigSep_union (by decide), hs, hs, hr, hr]
  repeat rw [bigSep_insert (by decide)]
  rw [bigSep_singleton]
  rfl

/-! ## The state launched, and the state at the end -/

/-- The credits of a direction before the neighbour's credit cell is known to be open. -/
def creds0 (c : Dev nD) (di : Fin 2) : sProp (MM F) := iprop(bigSep (Finset.Ico 8 24) (crdTok c di) ∗ crdSt m c di 0)

theorem creds0_open (c : Dev nD) (di : Fin 2) : iprop(creds0 m c di ∗ reached ER (cell (upD c di) (.credit di)) 0) ⊢ creds m c di 8 := by
  unfold creds0 creds
  rw [Finset.Ico_self, bigSep_empty]
  iintro ⟨⟨Ht, Hs⟩, Hr⟩
  isplitl [Ht]; · iexact Ht
  isplitl [Hs]; · iexact Hs
  isplitl [Hr]; · iexact Hr
  iempintro

def walkPre (c : Dev nD) : sProp (MM F) :=
  iprop(openPre m c ∗ (bigSep (Finset.Ico 0 8) fun n => any_ c (w8R (bq n)))
    ∗ (bigSep (Finset.Ico 0 8) fun n => iprop(any_ c (oC (bq n)) ∗ dutyTok ER (cell c .copy) n 0)) ∗ cFree c 0
    ∗ (sends c 0 0 ∗ creds0 m c 0) ∗ sends c 1 0 ∗ creds0 m c 1)

def walkMid (c : Dev nD) : sProp (MM F) :=
  iprop((bigSep Finset.univ fun q : Fin 4 => at_ c (xR q) (XA m c)) ∗ (bigSep Finset.univ fun q : Fin 4 => at_ c (x8R q) (X8 m c))
    ∗ (bigSep (Finset.Ico 0 8) fun n => at_ c (wC (bq n)) (WA m c)) ∗ w8all m c ∗ (bigSep (Finset.Ico 0 8) fun n => at_ c (oC (bq n)) (OUT m c))
    ∗ (xFree c 0 2 ∗ xFree c 1 2 ∗ wFree c 0 4 ∗ wFree c 1 4 ∗ cFree c 8)
    ∗ ((bigSep Finset.univ fun j => sendFree c 0 j 6) ∗ bigSep Finset.univ fun j => sendFree c 1 j 6)
    ∗ ((bigSep Finset.univ fun b => recvSt c 0 b 3) ∗ bigSep Finset.univ fun b => recvSt c 1 b 3)
    ∗ (crdSt m c 0 16 ∗ crdSt m c 1 16) ∗ atPos ER (cell c .bar) 1 ∅ 0 ∗ ow c 96)

theorem closeSend (c : Dev nD) (di : Fin 2) {α : Type} (kt : Pg F α) (Q : α → sProp (MM F)) :
    iprop(ctx m K J ∗ sends c di 24 ∗ ow c 96)
      ⊢ iprop((((bigSep Finset.univ fun j => sendFree c di j 6) ∗ ow c 96) -∗ run c kt Q)
          -∗ run c (waitSend di 0 4 >>= fun _ => waitSend di 1 5 >>= fun _ => waitSend di 2 6 >>= fun _ => waitSend di 3 7 >>= fun _ => kt) Q) := by
  have four : ∀ Φ : Fin 4 → sProp (MM F), bigSep Finset.univ Φ = iprop(Φ 0 ∗ Φ 1 ∗ Φ 2 ∗ Φ 3) := fun Φ => by
    rw [show (Finset.univ : Finset (Fin 4)) = {0, 1, 2, 3} from rfl, bigSep_insert (by decide), bigSep_insert (by decide), bigSep_insert (by decide), bigSep_singleton]; rfl
  have e : sends (F := F) c di 24 = iprop((sendSt c di 0 (5 + 1) ∗ sendSt c di 1 (5 + 1) ∗ sendSt c di 2 (5 + 1) ∗ sendSt c di 3 (5 + 1)) ∗ bigSep (Finset.Ico 24 24) (msgTok c di)) := by
    unfold sends; rw [four]; rfl
  rw [e, four]
  iintro ⟨#Hctx, ⟨⟨H0, H1, H2, H3⟩, -⟩, HO⟩ HQ
  rw [run_bind]
  iapply (wait_send_spec m K J c di 0 4 5 96 (by decide)) $$ [H0 HO]
  · isplitr; · iexact Hctx
    isplitl [H0] <;> iassumption
  iintro ⟨H0, HO⟩
  rw [run_bind]
  iapply (wait_send_spec m K J c di 1 5 5 96 (by decide)) $$ [H1 HO]
  · isplitr; · iexact Hctx
    isplitl [H1] <;> iassumption
  iintro ⟨H1, HO⟩
  rw [run_bind]
  iapply (wait_send_spec m K J c di 2 6 5 96 (by decide)) $$ [H2 HO]
  · isplitr; · iexact Hctx
    isplitl [H2] <;> iassumption
  iintro ⟨H2, HO⟩
  rw [run_bind]
  iapply (wait_send_spec m K J c di 3 7 5 96 (by decide)) $$ [H3 HO]
  · isplitr; · iexact Hctx
    isplitl [H3] <;> iassumption
  iintro ⟨H3, HO⟩
  iapply HQ
  isplitr [HO]
  · isplitl [H0]; · iexact H0
    isplitl [H1]; · iexact H1
    isplitl [H2] <;> iassumption
  iexact HO

theorem Wst_start (c : Dev nD) : iprop((wFly c 0 0 ∗ wFly c 1 0) ∗ wTodo m c 2 ∗ bigSep (Finset.Ico 0 8) fun n => any_ c (w8R (bq n))) ⊢ Wst m c 0 := by
  unfold Wst
  rw [bigSep_univ_two, Finset.Ico_self, bigSep_empty, bigSep_empty]
  iintro ⟨⟨H0, H1⟩, Ht, Ha⟩
  isplitl [H0 H1]
  · isplitl [H0]
    · iapply (Entails.of_eq (show (wFly c 0 0 : sProp (MM F)) = wst c 0 ((0 + 1 - (0 : Fin 2).val) / 2) from rfl)); iexact H0
    iapply (Entails.of_eq (show (wFly c 1 0 : sProp (MM F)) = wst c 1 ((0 + 1 - (1 : Fin 2).val) / 2) from rfl)); iexact H1
  isplitr; · iempintro
  isplitr; · iempintro
  isplitl [Ht] <;> iassumption

theorem Wst_end (c : Dev nD) : Wst m c 8 ⊢ iprop((wFree c 0 4 ∗ wFree c 1 4) ∗ (bigSep (Finset.Ico 0 8) fun n => at_ c (wC (bq n)) (WA m c)) ∗ w8all m c) := by
  unfold Wst
  rw [bigSep_univ_two]
  iintro ⟨⟨H0, H1⟩, Hw, H8, -, -⟩
  isplitl [H0 H1]
  · isplitl [H0]
    · iapply (Entails.of_eq (show (wst c 0 ((8 + 1 - (0 : Fin 2).val) / 2) : sProp (MM F)) = wFree c 0 4 from rfl)); iexact H0
    iapply (Entails.of_eq (show (wst c 1 ((8 + 1 - (1 : Fin 2).val) / 2) : sProp (MM F)) = wFree c 1 4 from rfl)); iexact H1
  isplitl [Hw]; · iexact Hw
  unfold w8all; iexact H8

theorem recvs_end (c : Dev nD) (di : Fin 2) : recvs c di 24 ⊢ (bigSep Finset.univ fun b => recvSt c di b 3 : sProp (MM F)) := by
  unfold recvs
  rw [show (bigSep Finset.univ fun b : Fin 8 => recvSt (F := F) c di b ((24 + 7 - b.val) / 8)) = bigSep Finset.univ fun b : Fin 8 => recvSt (F := F) c di b 3 from
    bigSep_congr fun b _ => by rw [show (24 + 7 - b.val) / 8 = 3 by have := b.isLt; omega]]
  iintro ⟨H, -⟩; iexact H

theorem creds_end (c : Dev nD) (di : Fin 2) : creds m c di 24 ⊢ crdSt m c di 16 := by
  unfold creds
  iintro ⟨-, H, -, -⟩; iexact H

/-- The program after the two constants are read. -/
def afterOpen (c : Dev nD) (g : Elt F .f32) : Pg F PUnit := do
  blocks (seedStep c) do
  xCast (k0_off1 c 2#32) (k0_off1_inb c 1) (k0_off2 c 2#32) (k0_off2_inb c 2) (k0_off2_packedfp8e5m2 c 2) 0
  blocks (ringStep c (k0_off2 c 6#32) (k0_off2_inb c 3) (k0_off4 c 1#32) (k0_off4_inb c 0)) do
  blocks (ringStep c (k0_off2 c 5#32) (k0_off2_inb c 4) (k0_off4 c 2#32) (k0_off4_inb c 1)) do
  xCast (k0_off3 c) (k0_off3_inb c) (k0_off5 c) (k0_off5_inb c) (k0_off5_packedfp8e5m2 c) 1
  blocks (lastStep c g) do
  closing

theorem closing_spec (c : Dev nD) (Q : PUnit → sProp (MM F)) :
    iprop(ctx m K J ∗ cFly c 7 ∗ sends c 0 24 ∗ sends c 1 24 ∗ ow c 96)
      ⊢ iprop(((cFree c 8 ∗ at_ c (oC 7) (OUT m c) ∗ (bigSep Finset.univ fun j => sendFree c 0 j 6) ∗ (bigSep Finset.univ fun j => sendFree c 1 j 6) ∗ ow c 96) -∗ Q ⟨⟩)
          -∗ run c closing Q) := by
  unfold closing
  iintro ⟨#Hctx, Hc, Hs0, Hs1, HO⟩ HQ
  rw [run_bind]
  iapply (wait_copy_spec m K J c 7 96) $$ [Hc HO]
  · isplitr; · iexact Hctx
    isplitl [Hc]; · iexact Hc
    iexact HO
  iintro ⟨Hc, Ho, HO⟩
  iapply (closeSend m K J c 0) $$ [Hs0 HO]
  · isplitr; · iexact Hctx
    isplitl [Hs0] <;> iassumption
  iintro ⟨Hs0, HO⟩
  iapply (closeSend m K J c 1 (pure ⟨⟩) Q) $$ [Hs1 HO]
  · isplitr; · iexact Hctx
    isplitl [Hs1] <;> iassumption
  iintro ⟨Hs1, HO⟩
  iapply (run_pure c PUnit.unit Q)
  iapply HQ
  isplitl [Hc]; · iexact Hc
  isplitl [Ho]; · iexact Ho
  isplitl [Hs0]; · iexact Hs0
  isplitl [Hs1] <;> iassumption

theorem walk_spec (c : Dev nD) (Q : PUnit → sProp (MM F)) :
    iprop(ctx m K J ∗ walkPre m c) ⊢ iprop((walkMid m c -∗ Q ⟨⟩) -∗ run c (opening c >>= fun _ => afterOpen c (gs m c)) Q) := by
  obtain ⟨-, -, p3, p4⟩ := off2_eq c
  obtain ⟨r1, r2, r3, r4⟩ := off_ring c
  unfold walkPre walkMid
  rw [xq_split c (fun q => at_ c (xR q) (XA m c)), xq_split c (fun q => at_ c (x8R q) (X8 m c)), bigSep_Ico_succ_top (b := 7) (show 0 ≤ 7 by decide) (fun n => at_ c (oC (bq n)) (OUT m c))]
  iintro ⟨#Hctx, Hpre, H8, Ho, Hcp, ⟨Hs0, Hc0⟩, Hs1, Hc1⟩ HQ
  rw [run_bind]
  iapply (opening_spec m K J c) $$ [Hpre]
  · isplitr; · iexact Hctx
    iexact Hpre
  unfold openPost
  iintro ⟨⟨Hx0, Hx1⟩, ⟨H80, H81, H82, H83⟩, Htodo, ⟨Hxf0, Hxf1, Hwf0, Hwf1⟩, Hr0, Hr1, Hp, Hmt, Hb, HO⟩
  unfold meets
  icases Hmt with ⟨Hm0, Hm1⟩
  ihave Hcs0 := (creds0_open m c 0) $$ [Hc0 Hm0]
  · isplitl [Hc0] <;> iassumption
  ihave Hcs1 := (creds0_open m c 1) $$ [Hc1 Hm1]
  · isplitl [Hc1] <;> iassumption
  unfold afterOpen
  -- the seed blocks
  iapply (blocks_spec m K J c (seedSt m c) (seedStep c) _ Q (seedStep_spec m K J c)) $$ [H80 H81 Htodo Hwf0 Hwf1 Hp HO Hs0 Hs1 H8]
  · isplitr; · iexact Hctx
    unfold seedSt
    isplitl [Hp]; · iexact Hp
    isplitl [Htodo Hwf0 Hwf1 H8]
    · iapply (Wst_start m c)
      isplitl [Hwf0 Hwf1]; · isplitl [Hwf0] <;> iassumption
      isplitl [Htodo] <;> iassumption
    isplitl [H80]; · iexact H80
    isplitl [H81]; · iexact H81
    isplitl [Hs0]; · iexact Hs0
    isplitl [Hs1]; · iexact Hs1
    iexact HO
  unfold seedSt
  iintro ⟨-, HW, H80, H81, Hs0, Hs1, HO⟩
  ihave HW2 := (Wst_end m c) $$ HW
  icases HW2 with ⟨⟨Hwf0, Hwf1⟩, Hw, H8⟩
  rw [run_bind]
  iapply (xCast_spec m K J c 0 1 (4 * 8) (by decide) _ _ _ _ _ p3) $$ [Hxf0 H82 HO]
  · isplitr; · iexact Hctx
    isplitl [Hxf0]; · iexact Hxf0
    isplitl [H82] <;> iassumption
  iintro ⟨Hxf0, Hx2, H82, HO⟩
  -- the first ring step
  iapply (blocks_spec m K J c (fun b => ringSt m c (8 * 1 + b)) _ _ Q (fun b Q => ringStep_spec m K J c 1 (by decide) (by decide) b _ _ r1 _ _ r2 Q))
    $$ [H80 H81 H82 H8 Hs0 Hr0 Hcs0 Hs1 Hr1 Hcs1 HO]
  · isplitr; · iexact Hctx
    unfold ringSt xs8
    isplitl [H80 H81 H82]
    · isplitl [H80]; · iexact H80
      isplitl [H81]; · iexact H81
      iexact H82
    isplitl [H8]; · iexact H8
    isplitl [Hs0 Hr0 Hcs0]
    · isplitl [Hs0]; · iexact Hs0
      isplitl [Hr0]; · iexact Hr0
      iexact Hcs0
    isplitl [Hs1 Hr1 Hcs1]
    · isplitl [Hs1]; · iexact Hs1
      isplitl [Hr1]; · iexact Hr1
      iexact Hcs1
    iexact HO
  iintro HR
  -- the second
  iapply (blocks_spec m K J c (fun b => ringSt m c (8 * 2 + b)) _ _ Q (fun b Q => ringStep_spec m K J c 2 (by decide) (by decide) b _ _ r3 _ _ r4 Q)) $$ [HR]
  · isplitr; · iexact Hctx
    iexact HR
  unfold ringSt xs8
  iintro ⟨⟨H80, H81, H82⟩, H8, ⟨Hs0, Hr0, Hc0⟩, ⟨Hs1, Hr1, Hc1⟩, HO⟩
  rw [run_bind]
  iapply (xCast_spec m K J c 1 1 (4 * (8 * 2 + 8)) (by decide) _ _ _ _ _ p4) $$ [Hxf1 H83 HO]
  · isplitr; · iexact Hctx
    isplitl [Hxf1]; · iexact Hxf1
    isplitl [H83] <;> iassumption
  iintro ⟨Hxf1, Hx3, H83, HO⟩
  -- the last step
  iapply (blocks_spec m K J c (lastSt m c) _ _ Q (lastStep_spec m K J c)) $$ [H83 H8 Hr0 Hr1 Hcp Ho HO]
  · isplitr; · iexact Hctx
    unfold lastSt cst
    isplitl [H83]; · iexact H83
    isplitl [H8]; · iexact H8
    isplitl [Hr0]; · iexact Hr0
    isplitl [Hr1]; · iexact Hr1
    isplitl [Hcp]; · iexact Hcp
    isplitr; · rw [Finset.Ico_self, bigSep_empty]; iempintro
    isplitl [Ho]; · iexact Ho
    iexact HO
  unfold lastSt
  iintro ⟨H83, H8, Hr0, Hr1, Hcp, Hout, -, HO⟩
  iapply (closing_spec m K J c Q) $$ [Hcp Hs0 Hs1 HO]
  · isplitr; · iexact Hctx
    isplitl [Hcp]; · iapply (Entails.of_eq (show (cst c 8 : sProp (MM F)) = cFly c 7 from rfl)); iexact Hcp
    isplitl [Hs0]; · iexact Hs0
    isplitl [Hs1]; · iexact Hs1
    iexact HO
  iintro ⟨Hcp, Ho7, Hs0, Hs1, HO⟩
  iapply HQ
  isplitl [Hx0 Hx1 Hx2 Hx3]
  · isplitl [Hx0]; · iexact Hx0
    isplitl [Hx1]; · iexact Hx1
    isplitl [Hx2] <;> iassumption
  isplitl [H80 H81 H82 H83]
  · isplitl [H80]; · iexact H80
    isplitl [H81]; · iexact H81
    isplitl [H82]; · iexact H82
    iexact H83
  isplitl [Hw]; · iexact Hw
  isplitl [H8]; · iexact H8
  isplitl [Ho7 Hout]
  · isplitl [Ho7]; · iexact Ho7
    iexact Hout
  isplitl [Hxf0 Hxf1 Hwf0 Hwf1 Hcp]
  · isplitl [Hxf0]; · iexact Hxf0
    isplitl [Hxf1]; · iexact Hxf1
    isplitl [Hwf0]; · iexact Hwf0
    isplitl [Hwf1] <;> iassumption
  isplitl [Hs0 Hs1]; · isplitl [Hs0] <;> iassumption
  isplitl [Hr0 Hr1]
  · isplitl [Hr0]
    · iapply (recvs_end c 0); iexact Hr0
    iapply (recvs_end c 1); iexact Hr1
  isplitl [Hc0 Hc1]
  · isplitl [Hc0]
    · iapply (creds_end m c 0); iexact Hc0
    iapply (creds_end m c 1); iexact Hc1
  isplitl [Hb] <;> iassumption

/-! ## The counters back at zero -/

theorem close_credit (c : Dev nD) (di : Fin 2) : iprop(ctx m K J ∗ crdSt m c di 16) ⊢ (|={Set.univ}=> semVal (cell c (.credit di)) 0 : sProp (MM F)) := by
  unfold crdSt
  iintro ⟨#Hctx, ⟨%S, %hS, Hat, -⟩⟩
  obtain ⟨h1, h2⟩ := hS
  imod (Rounds.fupd_skip ER (Rd m) (κ := K (cell c (.credit di))) (g := cell c (.credit di)) (R := 0) (T := S) (m := 16)
    (by rw [duties_eq m c (.credit di) (by simp) 0 Nat.one_pos]; exact (Finset.eq_of_subset_of_card_le h1 (by rw [Finset.card_range]; exact h2)).symm.subset)
    (by rw [expect_eq m c (.credit di) (by simp) 0 Nat.one_pos]; rfl) (Set.mem_univ _)) $$ [Hat] with ⟨Hat, -⟩
  · isplitr; · iapply (ctx_cell m K J c (.credit di)); iexact Hctx
    iexact Hat
  iapply (close_cell m K J c (.credit di) (by simp))
  isplitr; · iexact Hctx
  iexact Hat

theorem close_all {I : Type} [DecidableEq I] (S : Finset I) (c : Dev nD) (f : I → Kd) (hf : ∀ i, f i ≠ .none) (Φ Ψ : I → sProp (MM F))
    (h : ∀ i, Φ i ⊢ iprop(atPos ER (cell c (f i)) (rounds (f i)) ∅ 0 ∗ Ψ i)) :
    iprop(ctx m K J ∗ bigSep S Φ) ⊢ (|={Set.univ}=> iprop((bigSep S fun i => semVal (cell c (f i)) 0) ∗ bigSep S Ψ) : sProp (MM F)) := by
  have h1 : ∀ i ∈ S, iprop(ctx m K J ∗ Φ i) ⊢ (|={Set.univ}=> iprop(semVal (cell c (f i)) 0 ∗ Ψ i) : sProp (MM F)) := fun i _ => by
    iintro ⟨#Hctx, H⟩
    ihave H2 := (h i) $$ H
    icases H2 with ⟨Hat, HΨ⟩
    imod (close_cell m K J c (f i) (hf i)) $$ [Hat] with Hv
    · isplitr; · iexact Hctx
      iexact Hat
    imodintro
    isplitl [Hv] <;> iassumption
  refine (bigSep_with_persistent h1).trans ((bigSep_fupd S _).trans (fupd_mono (Entails.of_eq ?_)))
  exact bigSep_sep' (M := MM F) (s := S) (Φ := fun i => semVal (cell c (f i)) 0) (Ψ := Ψ)

/-- The end of a device's run: its arrays, its scratch memory, its counters, its promises all kept. -/
def walkPost (c : Dev nD) : sProp (MM F) :=
  iprop((bigSep Finset.univ fun q : Fin 4 => at_ c (xR q) (XA m c)) ∗ (bigSep Finset.univ fun q : Fin 4 => at_ c (x8R q) (X8 m c))
    ∗ (bigSep (Finset.Ico 0 8) fun n => at_ c (wC (bq n)) (WA m c)) ∗ w8all m c ∗ (bigSep (Finset.Ico 0 8) fun n => at_ c (oC (bq n)) (OUT m c))
    ∗ ((any_ c (xS 0) ∗ any_ c (xS 1)) ∗ (any_ c (wS 0) ∗ any_ c (wS 1)) ∗ any_ c stM)
    ∗ ((bigSep Finset.univ fun j => any_ c (sdS 0 j)) ∗ bigSep Finset.univ fun j => any_ c (sdS 1 j))
    ∗ ((bigSep Finset.univ fun b => any_ c (rcS 0 b)) ∗ bigSep Finset.univ fun b => any_ c (rcS 1 b))
    ∗ (bigSep kdAll fun k => semVal (cell c k) 0) ∗ ow c 96)

theorem close_one (c : Dev nD) (k : Kd) (hk : k ≠ .none) (P R : sProp (MM F))
    (hP : P ⊢ iprop(atPos ER (cell c k) (rounds k) ∅ 0 ∗ reached ER (cell c k) (rounds k) ∗ R)) :
    iprop(ctx m K J ∗ P) ⊢ (|={Set.univ}=> iprop(semVal (cell c k) 0 ∗ R) : sProp (MM F)) := by
  iintro ⟨#Hctx, HP⟩
  ihave HP2 := hP $$ HP
  icases HP2 with ⟨Hat, -, HR⟩
  imod (close_cell m K J c k hk) $$ [Hat] with Hv
  · isplitr; · iexact Hctx
    iexact Hat
  imodintro
  isplitl [Hv] <;> iassumption

theorem walk_close (c : Dev nD) : iprop(ctx m K J ∗ walkMid m c) ⊢ (|={Set.univ}=> walkPost m c : sProp (MM F)) := by
  unfold walkMid walkPost
  rw [kd_split]
  iintro ⟨#Hctx, Hx, Hx8, Hw, Hw8, Ho, ⟨Hxf0, Hxf1, Hwf0, Hwf1, Hcf⟩, ⟨Hs0, Hs1⟩, ⟨Hr0, Hr1⟩, ⟨Hc0, Hc1⟩, Hb, HO⟩
  have one := fun k hk P R hP => close_one m K J c k hk P R hP
  have hS : ∀ (di : Fin 2) (j : Fin 4), sendFree (F := F) c di j 6 ⊢ iprop(atPos ER (cell c (.send di j)) (rounds (.send di j)) ∅ 0 ∗ any_ c (sdS di j)) := fun di j => by
    unfold sendFree
    iintro ⟨H, -, H2⟩
    isplitl [H]
    · iexact H
    · iexact H2
  have S := fun di => close_all m K J Finset.univ c (fun j => Kd.send di j) (fun j => by simp) (fun j => sendFree c di j 6) (fun j => any_ c (sdS di j)) (hS di)
  have R := fun di => close_all m K J Finset.univ c (fun b => Kd.recv di b) (fun b => by simp) (fun b => recvSt c di b 3) (fun b => any_ c (rcS di b)) (fun b => by
    unfold recvSt; rw [if_neg (by decide)]; exact Entails.rfl)
  imod (one (.xd 0) (by simp) (xFree c 0 2) (any_ c (xS 0)) (by unfold xFree; exact Entails.rfl)) $$ [Hxf0] with ⟨Vx0, Hx0⟩
  · isplitr; · iexact Hctx
    iexact Hxf0
  imod (one (.xd 1) (by simp) (xFree c 1 2) (any_ c (xS 1)) (by unfold xFree; exact Entails.rfl)) $$ [Hxf1] with ⟨Vx1, Hx1⟩
  · isplitr; · iexact Hctx
    iexact Hxf1
  imod (one (.wd 0) (by simp) (wFree c 0 4) (any_ c (wS 0)) (by unfold wFree; exact Entails.rfl)) $$ [Hwf0] with ⟨Vw0, Hw0⟩
  · isplitr; · iexact Hctx
    iexact Hwf0
  imod (one (.wd 1) (by simp) (wFree c 1 4) (any_ c (wS 1)) (by unfold wFree; exact Entails.rfl)) $$ [Hwf1] with ⟨Vw1, Hw1⟩
  · isplitr; · iexact Hctx
    iexact Hwf1
  imod (one .copy (by simp) (cFree c 8) (any_ c stM) (by unfold cFree; exact Entails.rfl)) $$ [Hcf] with ⟨Vcp, Hst⟩
  · isplitr; · iexact Hctx
    iexact Hcf
  imod (close_cell m K J c .bar (by simp)) $$ [Hb] with Vb
  · isplitr; · iexact Hctx
    iexact Hb
  imod (close_credit m K J c 0) $$ [Hc0] with Vc0
  · isplitr; · iexact Hctx
    iexact Hc0
  imod (close_credit m K J c 1) $$ [Hc1] with Vc1
  · isplitr; · iexact Hctx
    iexact Hc1
  imod (S 0) $$ [Hs0] with ⟨Vs0, Hs0⟩
  · isplitr; · iexact Hctx
    iexact Hs0
  imod (S 1) $$ [Hs1] with ⟨Vs1, Hs1⟩
  · isplitr; · iexact Hctx
    iexact Hs1
  imod (R 0) $$ [Hr0] with ⟨Vr0, Hr0⟩
  · isplitr; · iexact Hctx
    iexact Hr0
  imod (R 1) $$ [Hr1] with ⟨Vr1, Hr1⟩
  · isplitr; · iexact Hctx
    iexact Hr1
  imodintro
  isplitl [Hx]; · iexact Hx
  isplitl [Hx8]; · iexact Hx8
  isplitl [Hw]; · iexact Hw
  isplitl [Hw8]; · iexact Hw8
  isplitl [Ho]; · iexact Ho
  isplitl [Hx0 Hx1 Hw0 Hw1 Hst]
  · isplitl [Hx0 Hx1]; · isplitl [Hx0] <;> iassumption
    isplitl [Hw0 Hw1]; · isplitl [Hw0] <;> iassumption
    iexact Hst
  isplitl [Hs0 Hs1]; · isplitl [Hs0] <;> iassumption
  isplitl [Hr0 Hr1]; · isplitl [Hr0] <;> iassumption
  isplitr [HO]
  · isplitl [Vb Vcp Vc0 Vc1 Vx0 Vx1 Vw0 Vw1]
    · isplitl [Vb]; · iexact Vb
      isplitl [Vcp]; · iexact Vcp
      isplitl [Vc0]; · iexact Vc0
      isplitl [Vc1]; · iexact Vc1
      isplitl [Vx0]; · iexact Vx0
      isplitl [Vx1]; · iexact Vx1
      isplitl [Vw0] <;> iassumption
    isplitl [Vs0]; · iexact Vs0
    isplitl [Vs1]; · iexact Vs1
    isplitl [Vr0] <;> iassumption
  iexact HO

end Cert.RingProof

end
-- ==== Proof.Split.lean ====
/-
  The whole buffers and the pieces the protocol holds them in: both ways between a buffer and its rows, column blocks or slots.
-/
module

public import proofs.«01_k».proof.Proof.Walk

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : GSem nD τ sig → ℕ) (J : Key → ℕ)

/-! ## A buffer cut by a label on its elements -/

section Cut
variable {ℓ : Loc nD τ sig} {B : Type} [Fintype B] [DecidableEq B] (I : B → Finset (Idx ℓ)) (lab : Idx ℓ → B) (h : ∀ b i, i ∈ I b ↔ lab i = b)
include h

omit [Fintype B] [DecidableEq B] in
theorem cut_disjoint (b b' : B) (hb : b ≠ b') : Disjoint (I b) (I b') :=
  Finset.disjoint_left.mpr fun i hi hi' => hb (((h b i).mp hi).symm.trans ((h b' i).mp hi'))
omit [DecidableEq B] in
theorem cut_cover [DecidableEq (Idx ℓ)] : Finset.univ.biUnion I = Finset.univ := by
  ext i
  simp only [Finset.mem_biUnion, Finset.mem_univ, true_and, iff_true]
  exact ⟨lab i, (h _ i).mpr rfl⟩

omit [DecidableEq B] in
/-- The whole at given contents is its pieces at them. -/
theorem cut_eq (f : Buf (Elt F) ℓ) : (ℓ ↦{fullShare} f : sProp (MM F)) = bigSep Finset.univ fun b => ℓ ↦[I b]{fullShare} f :=
  Ring.pointsTo_blocks I (cut_disjoint I lab h) (cut_cover I lab h) f
omit [DecidableEq B] in
theorem cut_any : iprop(∃ f : Buf (Elt F) ℓ, ℓ ↦{fullShare} f) ⊢ (bigSep Finset.univ fun b => Release.slot ℓ (I b) : sProp (MM F)) := by
  have hm : ∀ f : Buf (Elt F) ℓ, (bigSep Finset.univ fun b => (ℓ ↦[I b]{fullShare} f : sProp (MM F))) ⊢ bigSep Finset.univ fun b => Release.slot ℓ (I b) := fun f =>
    bigSep_mono fun b _ => show (ℓ ↦[I b]{fullShare} f : sProp (MM F)) ⊢ Release.slot ℓ (I b) from by
      unfold Release.slot; iintro H; iexists f; iexact H
  iintro ⟨%f, H⟩
  iapply (hm f)
  iapply (Entails.of_eq (cut_eq I lab h f))
  iexact H
theorem join_any : (bigSep Finset.univ fun b => Release.slot ℓ (I b) : sProp (MM F)) ⊢ iprop(∃ f : Buf (Elt F) ℓ, ℓ ↦{fullShare} f) :=
  Ring.pointsTo_blocks_join_exists I (cut_disjoint I lab h) (cut_cover I lab h) (Classical.arbitrary _)
end Cut

theorem ico8 (Φ : Fin 8 → sProp (MM F)) : (bigSep (Finset.Ico 0 8) fun n => Φ (bq n)) = bigSep Finset.univ Φ := by
  rw [← bigSep_image_of_injOn (f := bq) (by decide) Φ]
  rfl

/-! ## The labels -/

section Labels
variable (c : Dev nD)

/-- Rows of `x` by chunk, columns of `w` by block, slots by their leading coordinates. -/
def labRow (i : S4096x1024.Idx) : Fin 4 := ⟨(i 0).val / 1024, by have h : (i 0).val < 4096 := (i 0).isLt; omega⟩
def labX (i : S2x1024x1024.Idx) : Fin 2 := i 0
def labSd (i : S2x4x1024x512.Idx) : Fin 2 × Fin 4 := (i 0, i 1)
def labRc (i : S2x8x1024x512.Idx) : Fin 2 × Fin 8 := (i 0, i 1)

theorem mem_row (q : Fin 4) (i : S4096x1024.Idx) : i ∈ (rRow q).set ↔ labRow i = q := by
  rw [Rect.mem_set_unit, Fin.forall_fin_two]
  have h0 : (i 0).val < 4096 := (i 0).isLt
  have h1 : (i 1).val < 1024 := (i 1).isLt
  show (q.val * 1024 ≤ (i 0).val ∧ (i 0).val < q.val * 1024 + 1024) ∧ (0 ≤ (i 1).val ∧ (i 1).val < 0 + 1024) ↔ _
  rw [Fin.ext_iff]
  show _ ↔ (i 0).val / 1024 = q.val
  omega
theorem mem_col (b : Fin 8) (i : S1024x8192.Idx) : i ∈ (rW b).set ↔ blkOf i = b := by
  rw [Rect.mem_set_unit, Fin.forall_fin_two]
  have h0 : (i 0).val < 1024 := (i 0).isLt
  have h1 : (i 1).val < 8192 := (i 1).isLt
  show (0 ≤ (i 0).val ∧ (i 0).val < 0 + 1024) ∧ (b.val * 1024 ≤ (i 1).val ∧ (i 1).val < b.val * 1024 + 1024) ↔ _
  rw [Fin.ext_iff]
  show _ ↔ (i 1).val / 1024 = b.val
  omega
theorem mem_stage (k : Fin 2) (i : S2x1024x1024.Idx) : i ∈ (rX k).set ↔ labX i = k := by
  rw [Rect.mem_set_unit]
  have h0 : (i 0).val < 2 := (i 0).isLt
  have h1 : (i 1).val < 1024 := (i 1).isLt
  have h2 : (i 2).val < 1024 := (i 2).isLt
  rw [Fin.forall_fin_succ, Fin.forall_fin_two]
  show (k.val ≤ (i 0).val ∧ (i 0).val < k.val + 1) ∧ (0 ≤ (i 1).val ∧ (i 1).val < 0 + 1024) ∧ (0 ≤ (i 2).val ∧ (i 2).val < 0 + 1024) ↔ _
  refine Iff.trans ?_ (Fin.ext_iff (a := labX i) (b := k)).symm
  show _ ↔ (i 0).val = k.val
  omega
theorem mem_send (p : Fin 2 × Fin 4) (i : S2x4x1024x512.Idx) : i ∈ (rSd p.1 p.2).set ↔ labSd i = p := by
  rw [Rect.mem_set_unit]
  have h2 : (i 2).val < 1024 := (i 2).isLt
  have h3 : (i 3).val < 512 := (i 3).isLt
  rw [Fin.forall_fin_succ, Fin.forall_fin_succ, Fin.forall_fin_two]
  show (p.1.val ≤ (i 0).val ∧ (i 0).val < p.1.val + 1) ∧ (p.2.val ≤ (i 1).val ∧ (i 1).val < p.2.val + 1) ∧ (0 ≤ (i 2).val ∧ (i 2).val < 0 + 1024) ∧ (0 ≤ (i 3).val ∧ (i 3).val < 0 + 512) ↔ _
  refine Iff.trans ?_ (Prod.ext_iff.trans (and_congr (Fin.ext_iff (a := (labSd i).1) (b := p.1)) (Fin.ext_iff (a := (labSd i).2) (b := p.2)))).symm
  show _ ↔ (i 0).val = p.1.val ∧ (i 1).val = p.2.val
  omega
theorem mem_recv (p : Fin 2 × Fin 8) (i : S2x8x1024x512.Idx) : i ∈ (rRc p.1 p.2).set ↔ labRc i = p := by
  rw [Rect.mem_set_unit]
  have h2 : (i 2).val < 1024 := (i 2).isLt
  have h3 : (i 3).val < 512 := (i 3).isLt
  rw [Fin.forall_fin_succ, Fin.forall_fin_succ, Fin.forall_fin_two]
  show (p.1.val ≤ (i 0).val ∧ (i 0).val < p.1.val + 1) ∧ (p.2.val ≤ (i 1).val ∧ (i 1).val < p.2.val + 1) ∧ (0 ≤ (i 2).val ∧ (i 2).val < 0 + 1024) ∧ (0 ≤ (i 3).val ∧ (i 3).val < 0 + 512) ↔ _
  refine Iff.trans ?_ (Prod.ext_iff.trans (and_congr (Fin.ext_iff (a := (labRc i).1) (b := p.1)) (Fin.ext_iff (a := (labRc i).2) (b := p.2)))).symm
  show _ ↔ (i 0).val = p.1.val ∧ (i 1).val = p.2.val
  omega

theorem in_xR (q : Fin 4) (i : S4096x1024.Idx) : i ∈ (xR q).view.set ↔ labRow i = q := by
  rw [show (xR q).view.set = (rRow q).set from View.set_slice_whole _ _]; exact mem_row q i
theorem in_x8R (q : Fin 4) (i : S4096x1024.Idx) : i ∈ (x8R q).view.set ↔ labRow i = q := by
  rw [show (x8R q).view.set = (rRow q).set from View.set_slice_whole _ _]; exact mem_row q i
theorem in_wC (b : Fin 8) (i : S1024x8192.Idx) : i ∈ (wC b).view.set ↔ blkOf i = b := by
  rw [show (wC b).view.set = (rW b).set from View.set_slice_whole _ _]; exact mem_col b i
theorem in_w8R (b : Fin 8) (i : S1024x8192.Idx) : i ∈ (w8R b).view.set ↔ blkOf i = b := by
  rw [show (w8R b).view.set = (rW b).set from View.set_slice_whole _ _]; exact mem_col b i
theorem in_oC (b : Fin 8) (i : S1024x8192.Idx) : i ∈ (oC b).view.set ↔ blkOf i = b := by
  rw [show (oC b).view.set = (rW b).set from View.set_slice_whole _ _]; exact mem_col b i
theorem in_xS (k : Fin 2) (i : S2x1024x1024.Idx) : i ∈ (xS k).view.set ↔ labX i = k := by
  rw [show (xS k).view.set = (rX k).set from (View.set_reshape _ _).trans (View.set_slice_whole _ _)]; exact mem_stage k i
theorem in_wS (k : Fin 2) (i : S2x1024x1024.Idx) : i ∈ (wS k).view.set ↔ labX i = k := by
  rw [show (wS k).view.set = (rX k).set from (View.set_reshape _ _).trans (View.set_slice_whole _ _)]; exact mem_stage k i
theorem in_sdS (p : Fin 2 × Fin 4) (i : S2x4x1024x512.Idx) : i ∈ (sdS p.1 p.2).view.set ↔ labSd i = p := by
  rw [show (sdS p.1 p.2).view.set = (rSd p.1 p.2).set from (View.set_reshape _ _).trans (View.set_slice_whole _ _)]; exact mem_send p i
theorem in_rcS (p : Fin 2 × Fin 8) (i : S2x8x1024x512.Idx) : i ∈ (rcS p.1 p.2).view.set ↔ labRc i = p := by
  rw [show (rcS p.1 p.2).view.set = (rRc p.1 p.2).set from (View.set_reshape _ _).trans (View.set_slice_whole _ _)]; exact mem_recv p i

/-! ## The buffers of the kernel -/

theorem x_pieces (f : Buf (Elt F) ((c : Thread nD τ).loc main_arg0)) :
    (((c : Thread nD τ).loc main_arg0) ↦{fullShare} f : sProp (MM F)) = bigSep Finset.univ fun q => at_ c (xR q) f :=
  cut_eq (ℓ := (c : Thread nD τ).loc main_arg0) (fun q => (xR q).view.set) labRow in_xR f
theorem w_pieces (f : Buf (Elt F) ((c : Thread nD τ).loc main_arg1)) :
    (((c : Thread nD τ).loc main_arg1) ↦{fullShare} f : sProp (MM F)) = bigSep (Finset.Ico 0 8) fun n => at_ c (wC (bq n)) f :=
  (cut_eq (ℓ := (c : Thread nD τ).loc main_arg1) (fun b => (wC b).view.set) blkOf in_wC f).trans (ico8 fun b => at_ c (wC b) f).symm
theorem o_pieces (f : Buf (Elt F) ((c : Thread nD τ).loc main_v5)) :
    (((c : Thread nD τ).loc main_v5) ↦{fullShare} f : sProp (MM F)) = bigSep (Finset.Ico 0 8) fun n => at_ c (oC (bq n)) f :=
  (cut_eq (ℓ := (c : Thread nD τ).loc main_v5) (fun b => (oC b).view.set) blkOf in_oC f).trans (ico8 fun b => at_ c (oC b) f).symm

/-- A scratch buffer whole, at contents not chosen. -/
abbrev scr (b : Ref sig .tc) : sProp (MM F) := iprop(∃ f : Buf (Elt F) ((c : Thread nD τ).loc b), ((c : Thread nD τ).loc b) ↦{fullShare} f)

theorem x8_cut : scr c cc0_scratch0 ⊢ (bigSep Finset.univ fun q => any_ c (x8R q) : sProp (MM F)) :=
  cut_any (ℓ := (c : Thread nD τ).loc cc0_scratch0) (fun q => (x8R q).view.set) labRow in_x8R
theorem x8_join : (bigSep Finset.univ fun q => any_ c (x8R q) : sProp (MM F)) ⊢ scr c cc0_scratch0 :=
  join_any (ℓ := (c : Thread nD τ).loc cc0_scratch0) (fun q => (x8R q).view.set) labRow in_x8R
theorem w8_cut : scr c cc0_scratch2 ⊢ (bigSep (Finset.Ico 0 8) fun n => any_ c (w8R (bq n)) : sProp (MM F)) :=
  (cut_any (ℓ := (c : Thread nD τ).loc cc0_scratch2) (fun b => (w8R b).view.set) blkOf in_w8R).trans (Entails.of_eq (ico8 fun b => any_ c (w8R b)).symm)
theorem w8_join : (bigSep (Finset.Ico 0 8) fun n => any_ c (w8R (bq n)) : sProp (MM F)) ⊢ scr c cc0_scratch2 :=
  (Entails.of_eq (ico8 fun b => any_ c (w8R b))).trans (join_any (ℓ := (c : Thread nD τ).loc cc0_scratch2) (fun b => (w8R b).view.set) blkOf in_w8R)
theorem xs_cut : scr c cc0_scratch1 ⊢ (iprop(any_ c (xS 0) ∗ any_ c (xS 1)) : sProp (MM F)) :=
  (cut_any (ℓ := (c : Thread nD τ).loc cc0_scratch1) (fun k => (xS k).view.set) labX in_xS).trans (Entails.of_eq (bigSep_univ_two fun k => any_ c (xS k)))
theorem xs_join : (iprop(any_ c (xS 0) ∗ any_ c (xS 1)) : sProp (MM F)) ⊢ scr c cc0_scratch1 :=
  (Entails.of_eq (bigSep_univ_two fun k => any_ c (xS k)).symm).trans (join_any (ℓ := (c : Thread nD τ).loc cc0_scratch1) (fun k => (xS k).view.set) labX in_xS)
theorem ws_cut : scr c cc0_scratch3 ⊢ (iprop(any_ c (wS 0) ∗ any_ c (wS 1)) : sProp (MM F)) :=
  (cut_any (ℓ := (c : Thread nD τ).loc cc0_scratch3) (fun k => (wS k).view.set) labX in_wS).trans (Entails.of_eq (bigSep_univ_two fun k => any_ c (wS k)))
theorem ws_join : (iprop(any_ c (wS 0) ∗ any_ c (wS 1)) : sProp (MM F)) ⊢ scr c cc0_scratch3 :=
  (Entails.of_eq (bigSep_univ_two fun k => any_ c (wS k)).symm).trans (join_any (ℓ := (c : Thread nD τ).loc cc0_scratch3) (fun k => (wS k).view.set) labX in_wS)

theorem both (n : ℕ) (Φ : Fin 2 → Fin n → sProp (MM F)) :
    (bigSep Finset.univ fun p : Fin 2 × Fin n => Φ p.1 p.2) = iprop((bigSep Finset.univ fun j => Φ 0 j) ∗ bigSep Finset.univ fun j => Φ 1 j) := by
  rw [bigSep_univ_prod, bigSep_univ_two]
theorem sd_cut : scr c cc0_scratch4 ⊢ (iprop((bigSep Finset.univ fun j => any_ c (sdS 0 j)) ∗ bigSep Finset.univ fun j => any_ c (sdS 1 j)) : sProp (MM F)) :=
  (cut_any (ℓ := (c : Thread nD τ).loc cc0_scratch4) (fun p : Fin 2 × Fin 4 => (sdS p.1 p.2).view.set) labSd in_sdS).trans
    (Entails.of_eq (both 4 fun di j => any_ c (sdS di j)))
theorem sd_join : (iprop((bigSep Finset.univ fun j => any_ c (sdS 0 j)) ∗ bigSep Finset.univ fun j => any_ c (sdS 1 j)) : sProp (MM F)) ⊢ scr c cc0_scratch4 :=
  (Entails.of_eq (both 4 fun di j => any_ c (sdS di j)).symm).trans
    (join_any (ℓ := (c : Thread nD τ).loc cc0_scratch4) (fun p : Fin 2 × Fin 4 => (sdS p.1 p.2).view.set) labSd in_sdS)
theorem rc_cut : scr c cc0_scratch5 ⊢ (iprop((bigSep Finset.univ fun b => any_ c (rcS 0 b)) ∗ bigSep Finset.univ fun b => any_ c (rcS 1 b)) : sProp (MM F)) :=
  (cut_any (ℓ := (c : Thread nD τ).loc cc0_scratch5) (fun p : Fin 2 × Fin 8 => (rcS p.1 p.2).view.set) labRc in_rcS).trans
    (Entails.of_eq (both 8 fun di b => any_ c (rcS di b)))
theorem rc_join : (iprop((bigSep Finset.univ fun b => any_ c (rcS 0 b)) ∗ bigSep Finset.univ fun b => any_ c (rcS 1 b)) : sProp (MM F)) ⊢ scr c cc0_scratch5 :=
  (Entails.of_eq (both 8 fun di b => any_ c (rcS di b)).symm).trans
    (join_any (ℓ := (c : Thread nD τ).loc cc0_scratch5) (fun p : Fin 2 × Fin 8 => (rcS p.1 p.2).view.set) labRc in_rcS)
theorem st_whole : scr c cc0_scratch6 = (any_ c stM : sProp (MM F)) := by
  unfold any_ Release.slot
  rw [show stM.view.set = Finset.univ from View.set_whole _]

end Labels

end Cert.RingProof

end
-- ==== Proof.Deal.lean ====
/-
  What a launch deals: every token to the device that spends it, and the credits to the devices that wait.
-/
module

public import proofs.«01_k».proof.Proof.Split

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : GSem nD τ sig → ℕ) (J : Key → ℕ)

/-! ## Families out of families -/

/-- A family indexed by `S` out of one indexed by `T`, `f` naming each member once. -/
theorem pickFrom {I J : Type} [DecidableEq I] [DecidableEq J] (T : Finset I) (Φ : I → sProp (MM F)) (S : Finset J) (f : J → I) (hf : Set.InjOn f S) (hT : ∀ n ∈ S, f n ∈ T)
    (Ψ : J → sProp (MM F)) (hΨ : ∀ n ∈ S, Φ (f n) = Ψ n) : bigSep T Φ ⊢ bigSep S Ψ := by
  have h1 : bigSep (S.image f) Φ = bigSep S Ψ := (bigSep_image_of_injOn (f := f) hf Φ).trans (bigSep_congr hΨ)
  have h2 : bigSep T Φ = iprop(bigSep S Ψ ∗ bigSep (T \ S.image f) Φ) := by
    rw [bigSep_sdiff_split (Finset.image_subset_iff.mpr hT) (Φ := Φ), h1]; rfl
  rw [h2]
  iintro ⟨H, -⟩
  iexact H
/-- The same out of a family over a whole type. -/
theorem pick {I J : Type} [Fintype I] [DecidableEq I] [DecidableEq J] (Φ : I → sProp (MM F)) (S : Finset J) (f : J → I) (hf : Set.InjOn f S)
    (Ψ : J → sProp (MM F)) (hΨ : ∀ n ∈ S, Φ (f n) = Ψ n) : bigSep Finset.univ Φ ⊢ bigSep S Ψ :=
  pickFrom Finset.univ Φ S f hf (fun _ _ => Finset.mem_univ _) Ψ hΨ

/-- The neighbours' maps are permutations of the devices. -/
def dstE (di : Fin 2) : Dev nD ≃ Dev nD := ⟨fun c => dstD c di, fun c => upD c di, fun c => up_dst c di, fun c => dst_up c di⟩
theorem turn_dst (di : Fin 2) (Φ : Dev nD → sProp (MM F)) : bigSep Finset.univ Φ ⊢ bigSep Finset.univ fun c => Φ (dstD c di) :=
  Entails.of_eq (bigSep_univ_equiv (dstE di) Φ)
theorem turn_up (di : Fin 2) (Φ : Dev nD → sProp (MM F)) : bigSep Finset.univ Φ ⊢ bigSep Finset.univ fun c => Φ (upD c di) :=
  Entails.of_eq (bigSep_univ_equiv (dstE di).symm Φ)

/-! ## The duty tokens, by the cell they are of -/

abbrev KdT := {k : Kd // k ∈ kdAll}
theorem kdT_ne (k : KdT) : k.1 ≠ .none := fun h => absurd k.2 (by rw [h]; decide)
theorem sm_inj (k k' : Kd) (hk : k ≠ .none) (hk' : k' ≠ .none) (h : sm k = sm k') : k = k' := by
  rw [← kd_sm k hk, h, kd_sm k' hk']

def tokE : Dev nD × KdT × Fin 8 × Fin 16 ↪ GSem nD τ sig × ℕ × ℕ :=
  ⟨fun x => (cell x.1 x.2.1.1, x.2.2.1.val, x.2.2.2.val), fun x y h => by
    have h1 := congrArg (fun t : GSem nD τ sig × ℕ × ℕ => t.1) h
    refine Prod.ext (congrArg (fun g : GSem nD τ sig => g.1.1) h1) (Prod.ext (Subtype.ext (sm_inj _ _ (kdT_ne _) (kdT_ne _) (congrArg Prod.snd h1))) (Prod.ext ?_ ?_))
    · exact Fin.ext (congrArg (fun t : GSem nD τ sig × ℕ × ℕ => t.2.1) h)
    · exact Fin.ext (congrArg (fun t : GSem nD τ sig × ℕ × ℕ => t.2.2) h)⟩
def toks : Finset (GSem nD τ sig × ℕ × ℕ) := Finset.univ.map tokE

def duty (c : Dev nD) (k : Kd) (r d : ℕ) : sProp (MM F) := dutyTok ER (cell c k) r d
def duties (c : Dev nD) (k : Kd) : sProp (MM F) := bigSep Finset.univ fun x : Fin 8 × Fin 16 => duty c k x.1.val x.2.val

theorem toks_eq : bigSep toks (fun x => (dutyTok ER x.1 x.2.1 x.2.2 : sProp (MM F))) = bigSep Finset.univ fun c : Dev nD => bigSep kdAll (duties c) := by
  unfold toks
  rw [bigSep_map, bigSep_univ_prod]
  refine bigSep_congr fun c _ => ?_
  rw [bigSep_univ_prod]
  have h := bigSep_subtype (fun k => k ∈ kdAll) (duties (F := F) c)
  rw [Finset.filter_univ_mem] at h
  rw [← h]
  rfl

/-- The tokens of a cell of one duty a round, and of a cell of one round. -/
def rowToks (N : ℕ) (c : Dev nD) (k : Kd) : sProp (MM F) := bigSep (Finset.Ico 0 N) fun r => duty c k r 0

theorem duties_rows (c : Dev nD) (k : Kd) : duties (F := F) c k ⊢ bigSep (Finset.Ico 0 8) fun r => duty c k r 0 :=
  pick _ _ (fun n : ℕ => ((⟨n % 8, Nat.mod_lt _ (by decide)⟩, 0) : Fin 8 × Fin 16)) (by decide) _ fun n hn => by
    show duty c k (n % 8) 0 = _
    rw [Nat.mod_eq_of_lt (Finset.mem_Ico.mp hn).2]
theorem duties_bar (c : Dev nD) (k : Kd) : duties (F := F) c k ⊢ iprop(duty c k 0 0 ∗ duty c k 0 1) := by
  have h := pick (F := F) (fun x : Fin 8 × Fin 16 => duty c k x.1.val x.2.val) Finset.univ (fun i : Fin 2 => ((0, i.castLE (by decide)) : Fin 8 × Fin 16)) (by decide)
    (fun i => duty c k 0 i.val) fun n hn => rfl
  rw [bigSep_univ_two] at h
  exact h
theorem duties_two (c : Dev nD) (k : Kd) : duties (F := F) c k ⊢ iprop(duty c k 0 0 ∗ duty c k 1 0) := by
  have h := pick (F := F) (fun x : Fin 8 × Fin 16 => duty c k x.1.val x.2.val) Finset.univ (fun i : Fin 2 => ((i.castLE (by decide), 0) : Fin 8 × Fin 16)) (by decide)
    (fun i => duty c k i.val 0) fun n hn => rfl
  rw [bigSep_univ_two] at h
  exact h

/-- The tokens of a family of cells, message by message: `p` names the cell of a message, `r` its round there. -/
theorem duties_msgs {I : Type} [Fintype I] [DecidableEq I] (c : Dev nD) (k : I → Kd) (N : ℕ) (p : ℕ → I) (r : ℕ → ℕ) (hr : ∀ n ∈ Finset.Ico 0 N, r n < 8)
    (hi : Set.InjOn (fun n => (p n, r n)) (Finset.Ico 0 N : Finset ℕ)) :
    (bigSep Finset.univ fun i => duties (F := F) c (k i)) ⊢ bigSep (Finset.Ico 0 N) fun n => duty c (k (p n)) (r n) 0 := by
  unfold duties
  rw [← bigSep_univ_prod (fun x : I × (Fin 8 × Fin 16) => duty (F := F) c (k x.1) x.2.1.val x.2.2.val)]
  refine pick _ _ (fun n : ℕ => ((p n, ⟨r n % 8, Nat.mod_lt _ (by decide)⟩, 0) : I × (Fin 8 × Fin 16))) (fun a ha b hb h => hi ha hb ?_) _ fun n hn => ?_
  · have h1 : r a % 8 = r b % 8 := congrArg (fun x : I × (Fin 8 × Fin 16) => x.2.1.val) h
    rw [Nat.mod_eq_of_lt (hr a ha), Nat.mod_eq_of_lt (hr b hb)] at h1
    exact Prod.ext (congrArg (fun x : I × (Fin 8 × Fin 16) => x.1) h) h1
  · show duty c (k (p n)) (r n % 8) 0 = _
    rw [Nat.mod_eq_of_lt (hr n hn)]

/-! ## The tokens, by the cell, and by the device that spends them -/

def recvT (di : Fin 2) (o : Dev nD) : sProp (MM F) := bigSep (Finset.Ico 0 24) fun n => duty o (.recv di (bq n)) (n / 8) 0
def sendT (di : Fin 2) (o : Dev nD) : sProp (MM F) := bigSep (Finset.Ico 0 24) fun n => duty o (.send di (jq n)) (n / 4) 0
def creditT (di : Fin 2) (o : Dev nD) : sProp (MM F) := bigSep (Finset.Ico 8 24) fun n => duty o (.credit di) 0 (n - 8)
def localT (o : Dev nD) : sProp (MM F) :=
  iprop((bigSep (Finset.Ico 0 8) fun n => duty o (.wd (par (bq n))) (n / 2) 0)
    ∗ (duty o (.xd 0) 0 0 ∗ duty o (.xd 1) 0 0 ∗ duty o (.xd 0) 1 0 ∗ duty o (.xd 1) 1 0) ∗ bigSep (Finset.Ico 0 8) fun n => duty o .copy n 0)
def writeT (di : Fin 2) (o : Dev nD) : sProp (MM F) := bigSep (Finset.Ico 0 24) fun n => Release.writeTok ES (o, di, bq n) (n / 8 + 1)

def ownT (o : Dev nD) : sProp (MM F) :=
  iprop((recvT 0 o ∗ recvT 1 o) ∗ (sendT 0 o ∗ sendT 1 o) ∗ (creditT 0 o ∗ creditT 1 o) ∗ localT o ∗ duty o .bar 0 0 ∗ duty o .bar 0 1)
def spendT (c : Dev nD) : sProp (MM F) :=
  iprop((recvT 0 (dstD c 0) ∗ recvT 1 (dstD c 1)) ∗ (sendT 0 c ∗ sendT 1 c) ∗ (creditT 0 (upD c 0) ∗ creditT 1 (upD c 1)) ∗ localT c
    ∗ duty (lf c) .bar 0 0 ∗ duty (rt c) .bar 0 1)

theorem duties_credit (c : Dev nD) (di : Fin 2) : duties (F := F) c (.credit di) ⊢ creditT di c :=
  pick _ _ (fun n : ℕ => ((0, ⟨(n - 8) % 16, Nat.mod_lt _ (by decide)⟩) : Fin 8 × Fin 16)) (by decide) _ fun n hn => by
    show duty c (.credit di) 0 ((n - 8) % 16) = _
    rw [Nat.mod_eq_of_lt (by have := (Finset.mem_Ico.mp hn).2; omega)]
theorem own_intro (o : Dev nD) : bigSep kdAll (duties (F := F) o) ⊢ ownT o := by
  have hr : ∀ di : Fin 2, (bigSep Finset.univ fun b => duties (F := F) o (.recv di b)) ⊢ recvT di o := fun di =>
    duties_msgs o (Kd.recv di) 24 bq (· / 8) (fun n hn => by have := (Finset.mem_Ico.mp hn).2; show n / 8 < 8; omega) (by decide)
  have hs : ∀ di : Fin 2, (bigSep Finset.univ fun j => duties (F := F) o (.send di j)) ⊢ sendT di o := fun di =>
    duties_msgs o (Kd.send di) 24 jq (· / 4) (fun n hn => by have := (Finset.mem_Ico.mp hn).2; show n / 4 < 8; omega) (by decide)
  have hw := duties_msgs (F := F) o Kd.wd 8 (fun n => par (bq n)) (· / 2) (fun n hn => by have := (Finset.mem_Ico.mp hn).2; show n / 2 < 8; omega) (by decide)
  rw [bigSep_univ_two] at hw
  rw [kd_split]
  unfold ownT localT
  iintro ⟨⟨Hb, Hc, H0, H1, Hx0, Hx1, Hw0, Hw1⟩, Hs0, Hs1, Hr0, Hr1⟩
  isplitl [Hr0 Hr1]
  · isplitl [Hr0]
    · iapply (hr 0); iexact Hr0
    · iapply (hr 1); iexact Hr1
  isplitl [Hs0 Hs1]
  · isplitl [Hs0]
    · iapply (hs 0); iexact Hs0
    · iapply (hs 1); iexact Hs1
  isplitl [H0 H1]
  · isplitl [H0]
    · iapply (duties_credit o 0); iexact H0
    · iapply (duties_credit o 1); iexact H1
  isplitr [Hb]
  · isplitl [Hw0 Hw1]
    · iapply hw; isplitl [Hw0] <;> iassumption
    isplitr [Hc]
    · ihave Hx0 := (duties_two o (.xd 0)) $$ Hx0
      ihave Hx1 := (duties_two o (.xd 1)) $$ Hx1
      icases Hx0 with ⟨Ha, Hb⟩
      icases Hx1 with ⟨Hc, Hd⟩
      isplitl [Ha]; · iexact Ha
      isplitl [Hc]; · iexact Hc
      isplitl [Hb] <;> iassumption
    · iapply (duties_rows o .copy); iexact Hc
  · iapply (duties_bar o .bar); iexact Hb

theorem tokens_turn : (bigSep Finset.univ fun o : Dev nD => ownT (F := F) o) ⊢ bigSep Finset.univ fun c : Dev nD => spendT c := by
  unfold ownT spendT
  simp only [bigSep_sep']
  iintro ⟨⟨Hr0, Hr1⟩, ⟨Hs0, Hs1⟩, ⟨Hc0, Hc1⟩, Hl, Hb0, Hb1⟩
  isplitl [Hr0 Hr1]
  · isplitl [Hr0]
    · iapply (turn_dst 0 (recvT (F := F) 0)); iexact Hr0
    · iapply (turn_dst 1 (recvT (F := F) 1)); iexact Hr1
  isplitl [Hs0 Hs1]
  · isplitl [Hs0] <;> iassumption
  isplitl [Hc0 Hc1]
  · isplitl [Hc0]
    · iapply (turn_up 0 (creditT (F := F) 0)); iexact Hc0
    · iapply (turn_up 1 (creditT (F := F) 1)); iexact Hc1
  isplitl [Hl]; · iexact Hl
  isplitl [Hb0]
  · iapply (turn_dst 1 (fun o => duty (F := F) o .bar 0 0)); iexact Hb0
  · iapply (turn_dst 0 (fun o => duty (F := F) o .bar 0 1)); iexact Hb1

theorem tokens_deal : bigSep toks (fun x => (dutyTok ER x.1 x.2.1 x.2.2 : sProp (MM F))) ⊢ bigSep Finset.univ fun c : Dev nD => spendT c := by
  rw [toks_eq]
  exact (bigSep_mono fun o _ => own_intro o).trans tokens_turn

/-! ## The slots' tokens -/

def keys : Finset Key := Finset.univ

theorem ico24 (Φ : ℕ → sProp (MM F)) : (bigSep Finset.univ fun n : Fin 24 => Φ n.val) ⊢ bigSep (Finset.Ico 0 24) Φ :=
  pick _ _ (fun n : ℕ => (⟨n % 24, Nat.mod_lt _ (by decide)⟩ : Fin 24)) (by decide) _ fun n hn => by
    show Φ (n % 24) = _
    rw [Nat.mod_eq_of_lt (Finset.mem_Ico.mp hn).2]

theorem writes_deal : (bigSep (keys ×ˢ Finset.range 3) fun x => (Release.writeTok ES x.1 (x.2 + 1) : sProp (MM F)))
    ⊢ bigSep Finset.univ fun c : Dev nD => iprop(writeT 0 (dstD c 0) ∗ writeT 1 (dstD c 1)) := by
  have h1 : (bigSep (keys ×ˢ Finset.range 3) fun x => (Release.writeTok ES x.1 (x.2 + 1) : sProp (MM F)))
      ⊢ bigSep Finset.univ fun y : Dev nD × Fin 2 × Fin 24 => Release.writeTok ES (y.1, y.2.1, bq y.2.2.val) (y.2.2.val / 8 + 1) :=
    pickFrom _ _ Finset.univ (fun y : Dev nD × Fin 2 × Fin 24 => (((y.1, y.2.1, bq y.2.2.val), y.2.2.val / 8) : Key × ℕ)) (fun y _ y' _ h => by
        have hb : y.2.2.val % 8 = y'.2.2.val % 8 := congrArg (fun x : Key × ℕ => x.1.2.2.val) h
        have hn : y.2.2.val / 8 = y'.2.2.val / 8 := congrArg (fun x : Key × ℕ => x.2) h
        exact Prod.ext (congrArg (fun x : Key × ℕ => x.1.1) h) (Prod.ext (congrArg (fun x : Key × ℕ => x.1.2.1) h) (Fin.ext (by omega))))
      (fun y _ => Finset.mem_product.mpr ⟨Finset.mem_univ _, Finset.mem_range.mpr (by have := y.2.2.isLt; omega)⟩) _ fun _ _ => rfl
  have h2 : (bigSep Finset.univ fun y : Dev nD × Fin 2 × Fin 24 => (Release.writeTok ES (y.1, y.2.1, bq y.2.2.val) (y.2.2.val / 8 + 1) : sProp (MM F)))
      ⊢ bigSep Finset.univ fun o : Dev nD => iprop(writeT 0 o ∗ writeT 1 o) := by
    rw [bigSep_univ_prod]
    refine bigSep_mono fun o _ => ?_
    rw [bigSep_univ_prod, bigSep_univ_two]
    exact BI.sep_mono (ico24 fun n => Release.writeTok ES (o, 0, bq n) (n / 8 + 1)) (ico24 fun n => Release.writeTok ES (o, 1, bq n) (n / 8 + 1))
  refine h1.trans (h2.trans ?_)
  simp only [bigSep_sep']
  exact BI.sep_mono (turn_dst 0 (writeT (F := F) 0)) (turn_dst 1 (writeT (F := F) 1))

/-! ## The credits -/

def gold (c : Dev nD) : sProp (MM F) :=
  iprop((bigSep (Finset.Ico 0 24) (rcvTok c 0) ∗ bigSep (Finset.Ico 0 24) (rcvTok c 1))
    ∗ ((bigSep (Finset.Ico 8 24) fun n => cred (tallyAt (cell c (.credit 0)) n 1)) ∗ bigSep (Finset.Ico 8 24) fun n => cred (tallyAt (cell c (.credit 1)) n 1))
    ∗ cred (tallyAt (cell c .bar) 0 2))

theorem quad (N : ℕ) (Φ : ℕ → sProp (MM F)) :
    bigSep (Finset.Ico 0 (4 * N)) Φ = bigSep (Finset.Ico 0 N) fun n => iprop((Φ (4 * n) ∗ Φ (4 * n + 2)) ∗ Φ (4 * n + 1) ∗ Φ (4 * n + 3)) := by
  induction N with
  | zero => rfl
  | succ N ih =>
    rw [show 4 * (N + 1) = 4 * N + 1 + 1 + 1 + 1 by omega, bigSep_Ico_succ_top (by omega), bigSep_Ico_succ_top (by omega), bigSep_Ico_succ_top (by omega), bigSep_Ico_succ_top (by omega),
      bigSep_Ico_succ_top (by omega), ih]
    refine Entails.antisymm (show _ ⊢ (_ : sProp (MM F)) from ?_) (show _ ⊢ (_ : sProp (MM F)) from ?_)
    · iintro ⟨H3, H2, H1, H0, H⟩
      isplitr [H]
      · isplitl [H0 H2]
        · isplitl [H0] <;> iassumption
        isplitl [H1] <;> iassumption
      iexact H
    · iintro ⟨⟨⟨H0, H2⟩, H1, H3⟩, H⟩
      isplitl [H3]; · iexact H3
      isplitl [H2]; · iexact H2
      isplitl [H1]; · iexact H1
      isplitl [H0] <;> iassumption

theorem gold_recv (c : Dev nD) (di : Fin 2) (n : ℕ) : (Pipeline.launchCred (fun d => item d (4 * n + 2 * di.val + 1)) c : sProp (MM F)) ⊢ rcvTok c di n := by
  simp only [item_send]
  exact Pipeline.launchCred_tallyAt (sm (.recv di (bq n))) (fun d => dstD d di) (fun d => upD d di) (fun d => dst_up d di) (fun d => up_dst d di) n NB c
theorem gold_credit (c : Dev nD) (di : Fin 2) (n : ℕ) (h : 8 ≤ n) :
    (Pipeline.launchCred (fun d => item d (4 * n + 2 * di.val)) c : sProp (MM F)) ⊢ cred (tallyAt (cell c (.credit di)) n 1) := by
  simp only [item_credit _ n di h]
  exact Pipeline.launchCred_tallyAt (sm (.credit di)) (fun d => upD d di) (fun d => dstD d di) (fun d => up_dst d di) (fun d => dst_up d di) n 1 c

/-- The credits launched: what the neighbours owe a device is what it waits for. -/
theorem gold_deal (c : Dev nD) : (Pipeline.launchCred owed0 c : sProp (MM F)) ⊢ gold c := by
  have hb1 := Pipeline.launchCred_tallyAt (τ := τ) (Val := Elt F) (Name := ℕ) (U := UU) (Lvl := ℕ) (sm .bar) (fun d => dstD d 0) (fun d => upD d 0) (fun d => dst_up d 0) (fun d => up_dst d 0) 0 1 c
  have hb2 := Pipeline.launchCred_tallyAt (τ := τ) (Val := Elt F) (Name := ℕ) (U := UU) (Lvl := ℕ) (sm .bar) (fun d => upD d 0) (fun d => dstD d 0) (fun d => up_dst d 0) (fun d => dst_up d 0) 0 1 c
  have hs : (Pipeline.launchCred (fun d => owed d 0) c : sProp (MM F))
      ⊢ iprop(((bigSep (Finset.Ico 0 24) fun n => Pipeline.launchCred (fun d => item d (4 * n)) c) ∗ bigSep (Finset.Ico 0 24) fun n => Pipeline.launchCred (fun d => item d (4 * n + 2)) c)
        ∗ (bigSep (Finset.Ico 0 24) fun n => Pipeline.launchCred (fun d => item d (4 * n + 1)) c) ∗ bigSep (Finset.Ico 0 24) fun n => Pipeline.launchCred (fun d => item d (4 * n + 3)) c) := by
    unfold owed
    rw [Pipeline.launchCred_sum, show (96 : ℕ) = 4 * 24 from rfl, quad, bigSep_sep', bigSep_sep', bigSep_sep']
  have hr0 : (bigSep (Finset.Ico 0 24) fun n => Pipeline.launchCred (fun d => item d (4 * n + 1)) c : sProp (MM F)) ⊢ bigSep (Finset.Ico 0 24) (rcvTok c 0) :=
    bigSep_mono fun n _ => gold_recv c 0 n
  have hr1 : (bigSep (Finset.Ico 0 24) fun n => Pipeline.launchCred (fun d => item d (4 * n + 3)) c : sProp (MM F)) ⊢ bigSep (Finset.Ico 0 24) (rcvTok c 1) :=
    bigSep_mono fun n _ => gold_recv c 1 n
  have late : ∀ Φ : ℕ → sProp (MM F), bigSep (Finset.Ico 0 24) Φ ⊢ bigSep (Finset.Ico 8 24) Φ := fun Φ =>
    pickFrom _ _ _ id (fun _ _ _ _ h => h) (fun n hn => by have := Finset.mem_Ico.mp hn; exact Finset.mem_Ico.mpr (by simp only [id]; omega)) _ fun _ _ => rfl
  have hc0 : (bigSep (Finset.Ico 0 24) fun n => Pipeline.launchCred (fun d => item d (4 * n)) c : sProp (MM F)) ⊢ bigSep (Finset.Ico 8 24) fun n => cred (tallyAt (cell c (.credit 0)) n 1) :=
    (late _).trans (bigSep_mono fun n hn => gold_credit c 0 n (Finset.mem_Ico.mp hn).1)
  have hc1 : (bigSep (Finset.Ico 0 24) fun n => Pipeline.launchCred (fun d => item d (4 * n + 2)) c : sProp (MM F)) ⊢ bigSep (Finset.Ico 8 24) fun n => cred (tallyAt (cell c (.credit 1)) n 1) :=
    (late _).trans (bigSep_mono fun n hn => gold_credit c 1 n (Finset.mem_Ico.mp hn).1)
  have hsum : (Pipeline.launchCred owed0 c : sProp (MM F)) = iprop((Pipeline.launchCred (fun d => owed d 0) c ∗ Pipeline.launchCred (fun d => tallyAt (cell (dstD d 0) .bar) 0 1) c)
      ∗ Pipeline.launchCred (fun d => tallyAt (cell (upD d 0) .bar) 0 1) c) := by
    rw [← Pipeline.launchCred_add, ← Pipeline.launchCred_add]; rfl
  rw [hsum]
  unfold gold
  iintro ⟨⟨H, Hb1⟩, Hb2⟩
  ihave Hb1 := hb1 $$ Hb1
  ihave Hb2 := hb2 $$ Hb2
  ihave H := hs $$ H
  icases H with ⟨⟨Hc0, Hc1⟩, Hr0, Hr1⟩
  isplitl [Hr0 Hr1]
  · isplitl [Hr0]
    · iapply hr0; iexact Hr0
    · iapply hr1; iexact Hr1
  isplitl [Hc0 Hc1]
  · isplitl [Hc0]
    · iapply hc0; iexact Hc0
    · iapply hc1; iexact Hc1
  rw [show (tallyAt (cell c .bar) 0 2 : CellTallies nD τ sig ℕ) = tallyAt (cell c .bar) 0 1 + tallyAt (cell c .bar) 0 1 from (tallyAt_add _ _ 1 1).symm]
  iapply (cred_add _ _).2
  isplitl [Hb1] <;> iassumption

/-! ## A device's state at the start of its run -/

/-- A cell as opened. -/
def open0 (c : Dev nD) (k : Kd) : sProp (MM F) := iprop(atPos ER (cell c k) 0 ∅ 0 ∗ reached ER (cell c k) 0)
def readers (c : Dev nD) : sProp (MM F) :=
  iprop((bigSep Finset.univ fun b => Release.readerAt ES (c, 0, b) 0) ∗ bigSep Finset.univ fun b => Release.readerAt ES (c, 1, b) 0)
/-- The ghost state dealt to a device: tokens, readers, credits, and that its neighbours' barrier cells are open. -/
def dealt (c : Dev nD) : sProp (MM F) :=
  iprop(spendT c ∗ (writeT 0 (dstD c 0) ∗ writeT 1 (dstD c 1)) ∗ readers c ∗ gold c ∗ reached ER (cell (lf c) .bar) 0 ∗ reached ER (cell (rt c) .bar) 0)
def bufs0 (c : Dev nD) : sProp (MM F) :=
  iprop((((c : Thread nD τ).loc main_arg0) ↦{fullShare} XA m c) ∗ (((c : Thread nD τ).loc main_arg1) ↦{fullShare} WA m c)
    ∗ ∃ f : Buf (Elt F) ((c : Thread nD τ).loc main_v5), ((c : Thread nD τ).loc main_v5) ↦{fullShare} f)
def scratch (c : Dev nD) : sProp (MM F) :=
  iprop(scr c cc0_scratch0 ∗ scr c cc0_scratch1 ∗ scr c cc0_scratch2 ∗ scr c cc0_scratch3 ∗ scr c cc0_scratch4 ∗ scr c cc0_scratch5 ∗ scr c cc0_scratch6)

theorem msgs_intro (c : Dev nD) (di : Fin 2) : iprop(recvT di (dstD c di) ∗ writeT di (dstD c di) ∗ sendT di c) ⊢ bigSep (Finset.Ico 0 24) (msgTok (F := F) c di) := by
  unfold recvT writeT sendT
  rw [← bigSep_sep', ← bigSep_sep']
  exact BI.Entails.refl _
theorem sends_intro (c : Dev nD) (di : Fin 2) :
    iprop((bigSep Finset.univ fun j => open0 c (.send di j)) ∗ (bigSep Finset.univ fun j => any_ c (sdS di j)) ∗ recvT di (dstD c di) ∗ writeT di (dstD c di) ∗ sendT di c)
      ⊢ sends (F := F) c di 0 := by
  have h : iprop((bigSep Finset.univ fun j => open0 (F := F) c (.send di j)) ∗ (bigSep Finset.univ fun j => any_ c (sdS di j)))
      ⊢ (bigSep Finset.univ fun j : Fin 4 => sendSt c di j ((0 + 3 - j.val) / 4) : sProp (MM F)) := by
    rw [← bigSep_sep']
    refine bigSep_mono fun j _ => ?_
    have hj := j.isLt
    rw [show (0 + 3 - j.val) / 4 = 0 by omega]
    show iprop(open0 (F := F) c (.send di j) ∗ any_ c (sdS di j)) ⊢ sendFree c di j 0
    unfold open0 sendFree
    iintro ⟨⟨Ha, Hr⟩, Hb⟩
    isplitl [Ha]; · iexact Ha
    isplitl [Hr] <;> iassumption
  unfold sends
  iintro ⟨Ho, Hs, H⟩
  isplitl [Ho Hs]
  · iapply h; isplitl [Ho] <;> iassumption
  · iapply (msgs_intro c di); iexact H
theorem slots_intro (c : Dev nD) (di : Fin 2) :
    iprop((bigSep Finset.univ fun b => open0 c (.recv di b)) ∗ (bigSep Finset.univ fun b => any_ c (rcS di b)) ∗ (bigSep Finset.univ fun b => Release.readerAt ES (c, di, b) 0)
      ∗ bigSep (Finset.Ico 0 24) (rcvTok c di)) ⊢ slots0 (F := F) c di := by
  have h : iprop((bigSep Finset.univ fun b => open0 (F := F) c (.recv di b)) ∗ (bigSep Finset.univ fun b => any_ c (rcS di b))
      ∗ (bigSep Finset.univ fun b => Release.readerAt ES (c, di, b) 0)) ⊢ (bigSep Finset.univ (slot0 c di) : sProp (MM F)) := by
    rw [← bigSep_sep', ← bigSep_sep']
    refine bigSep_mono fun b _ => show (_ : sProp (MM F)) ⊢ _ from ?_
    unfold open0 slot0
    iintro ⟨⟨Ha, Hr⟩, Hb, Hd⟩
    isplitl [Ha]; · iexact Ha
    isplitl [Hr]; · iexact Hr
    isplitl [Hd] <;> iassumption
  unfold slots0
  iintro ⟨Ho, Hs, Hd, H⟩
  isplitr [H]
  · iapply h; isplitl [Ho]; · iexact Ho
    isplitl [Hs] <;> iassumption
  · iexact H
theorem creds_intro (c : Dev nD) (di : Fin 2) :
    iprop(creditT di (upD c di) ∗ (bigSep (Finset.Ico 8 24) fun n => cred (tallyAt (cell c (.credit di)) n 1)) ∗ atPos ER (cell c (.credit di)) 0 ∅ 0) ⊢ creds0 m c di := by
  unfold creds0 creditT crdSt
  iintro ⟨Ht, Hc, Ha⟩
  isplitl [Ht Hc]
  · iapply (Entails.of_eq (show iprop((bigSep (Finset.Ico 8 24) fun n => duty (F := F) (upD c di) (.credit di) 0 (n - 8)) ∗ bigSep (Finset.Ico 8 24) fun n => cred (tallyAt (cell c (.credit di)) n 1))
      = bigSep (Finset.Ico 8 24) (crdTok (F := F) c di) from (bigSep_sep' ..).symm))
    isplitl [Ht] <;> iassumption
  · iexists ∅
    isplitr; · ipureintro; exact ⟨Finset.empty_subset _, Nat.zero_le _⟩
    isplitl [Ha]; · iexact Ha
    rw [bigSep_empty]
    iempintro

theorem walkPre_intro (c : Dev nD) :
    iprop((bigSep kdAll (open0 c)) ∗ dealt c ∗ bufs0 m c ∗ scratch c ∗ ∃ W, owes (c : Thread nD τ) (owed0 c) W) ⊢ walkPre m c := by
  have hw : iprop((bigSep (Finset.Ico 0 8) fun n => at_ c (wC (bq n)) (WA m c)) ∗ bigSep (Finset.Ico 0 8) fun n => dutyTok ER (cell c (.wd (par (bq n)))) (n / 2) 0) ⊢ wTodo m c 0 := by
    rw [← bigSep_sep']; exact BI.Entails.refl _
  have ho : ∀ f : Buf (Elt F) ((c : Thread nD τ).loc main_v5), iprop((bigSep (Finset.Ico 0 8) fun n => at_ c (oC (bq n)) f) ∗ bigSep (Finset.Ico 0 8) fun n => dutyTok ER (cell c .copy) n 0)
      ⊢ bigSep (Finset.Ico 0 8) fun n => iprop(any_ c (oC (bq n)) ∗ dutyTok ER (cell c .copy) n 0) := fun f => by
    rw [← bigSep_sep']
    exact bigSep_mono fun n _ => BI.sep_mono (any_intro c (oC (bq n)) f) (BI.Entails.refl _)
  rw [kd_split]
  unfold dealt spendT localT bufs0 scratch readers gold walkPre openPre bar0 cFree xFree wFree duty
  iintro ⟨⟨⟨Hb, Hcp, Hk0, Hk1, Hx0, Hx1, Hw0, Hw1⟩, Hs0, Hs1, Hr0, Hr1⟩,
    ⟨⟨⟨Tr0, Tr1⟩, ⟨Ts0, Ts1⟩, ⟨Tc0, Tc1⟩, ⟨Tw, ⟨Tx0, Tx1, Tx2, Tx3⟩, Tcp⟩, Tb0, Tb1⟩, ⟨Wr0, Wr1⟩, ⟨Rd0, Rd1⟩, ⟨⟨Gr0, Gr1⟩, ⟨Gc0, Gc1⟩, Gb⟩, Hlb, Hrb⟩,
    ⟨Hx, Hw, ⟨%f, Ho⟩⟩, ⟨S0, S1, S2, S3, S4, S5, S6⟩, HO⟩
  ihave S0 := (x8_cut c) $$ S0
  ihave S1 := (xs_cut c) $$ S1
  icases S1 with ⟨Sx0, Sx1⟩
  ihave S2 := (w8_cut c) $$ S2
  ihave S3 := (ws_cut c) $$ S3
  icases S3 with ⟨Sw0, Sw1⟩
  ihave S4 := (sd_cut c) $$ S4
  icases S4 with ⟨Sd0, Sd1⟩
  ihave S5 := (rc_cut c) $$ S5
  icases S5 with ⟨Sr0, Sr1⟩
  ihave S6 := (Entails.of_eq (st_whole c)) $$ S6
  ihave Hx := (Entails.of_eq (x_pieces c (XA m c))) $$ Hx
  ihave Hw := (Entails.of_eq (w_pieces c (WA m c))) $$ Hw
  ihave Ho := (Entails.of_eq (o_pieces c f)) $$ Ho
  unfold open0
  icases Hb with ⟨Hb, -⟩
  icases Hcp with ⟨Pcp, Qcp⟩
  icases Hk0 with ⟨Pk0, Qk0⟩
  icases Hk1 with ⟨Pk1, Qk1⟩
  icases Hx0 with ⟨Px0, Qx0⟩
  icases Hx1 with ⟨Px1, Qx1⟩
  icases Hw0 with ⟨Pw0, Qw0⟩
  icases Hw1 with ⟨Pw1, Qw1⟩
  isplitr [S2 Ho Tcp Pcp Qcp S6 Hs0 Sd0 Tr0 Wr0 Ts0 Hs1 Sd1 Tr1 Wr1 Ts1 Tc0 Gc0 Pk0 Tc1 Gc1 Pk1]
  · isplitl [Hx]; · iexact Hx
    isplitl [S0]; · iexact S0
    isplitl [Hw Tw]
    · iapply hw; isplitl [Hw] <;> iassumption
    isplitl [Px0 Qx0 Sx0 Px1 Qx1 Sx1 Pw0 Qw0 Sw0 Pw1 Qw1 Sw1]
    · isplitl [Px0 Qx0 Sx0]
      · isplitl [Px0]; · iexact Px0
        isplitl [Qx0] <;> iassumption
      isplitl [Px1 Qx1 Sx1]
      · isplitl [Px1]; · iexact Px1
        isplitl [Qx1] <;> iassumption
      isplitl [Pw0 Qw0 Sw0]
      · isplitl [Pw0]; · iexact Pw0
        isplitl [Qw0] <;> iassumption
      isplitl [Pw1]; · iexact Pw1
      isplitl [Qw1] <;> iassumption
    isplitl [Tx0 Tx1 Tx2 Tx3]
    · isplitl [Tx0]; · iexact Tx0
      isplitl [Tx1]; · iexact Tx1
      isplitl [Tx2] <;> iassumption
    isplitl [Hr0 Sr0 Rd0 Gr0]
    · iapply (slots_intro c 0)
      isplitl [Hr0]; · iexact Hr0
      isplitl [Sr0]; · iexact Sr0
      isplitl [Rd0] <;> iassumption
    isplitl [Hr1 Sr1 Rd1 Gr1]
    · iapply (slots_intro c 1)
      isplitl [Hr1]; · iexact Hr1
      isplitl [Sr1]; · iexact Sr1
      isplitl [Rd1] <;> iassumption
    isplitr [HO]
    · isplitl [Hb]; · iexact Hb
      isplitl [Gb]; · iexact Gb
      isplitl [Tb0 Hlb]
      · isplitl [Tb0] <;> iassumption
      isplitl [Tb1 Hrb]
      · isplitl [Tb1] <;> iassumption
      isplitl [Qk0] <;> iassumption
    iexact HO
  isplitl [S2]; · iexact S2
  isplitl [Ho Tcp]
  · iapply (ho f); isplitl [Ho] <;> iassumption
  isplitl [Pcp Qcp S6]
  · isplitl [Pcp]; · iexact Pcp
    isplitl [Qcp] <;> iassumption
  isplitl [Hs0 Sd0 Tr0 Wr0 Ts0 Tc0 Gc0 Pk0]
  · isplitr [Tc0 Gc0 Pk0]
    · iapply (sends_intro c 0)
      isplitl [Hs0]; · iexact Hs0
      isplitl [Sd0]; · iexact Sd0
      isplitl [Tr0]; · iexact Tr0
      isplitl [Wr0] <;> iassumption
    · iapply (creds_intro m c 0)
      isplitl [Tc0]; · iexact Tc0
      isplitl [Gc0] <;> iassumption
  isplitr [Tc1 Gc1 Pk1]
  · iapply (sends_intro c 1)
    isplitl [Hs1]; · iexact Hs1
    isplitl [Sd1]; · iexact Sd1
    isplitl [Tr1]; · iexact Tr1
    isplitl [Wr1] <;> iassumption
  · iapply (creds_intro m c 1)
    isplitl [Tc1]; · iexact Tc1
    isplitl [Gc1] <;> iassumption

/-! ## A device's state at the end of its run -/

theorem walkPost_elim (c : Dev nD) :
    walkPost m c ⊢ iprop(((((c : Thread nD τ).loc main_arg0) ↦{fullShare} XA m c) ∗ (((c : Thread nD τ).loc main_arg1) ↦{fullShare} WA m c)
        ∗ (((c : Thread nD τ).loc main_v5) ↦{fullShare} OUT m c)) ∗ scratch c ∗ (bigSep kdAll fun k => semVal (cell c k) 0) ∗ ∃ W, owes (c : Thread nD τ) 0 W) := by
  have h8 : (bigSep Finset.univ fun q : Fin 4 => at_ c (x8R q) (X8 m c)) ⊢ bigSep Finset.univ fun q : Fin 4 => any_ c (x8R q) :=
    bigSep_mono fun q _ => any_intro c (x8R q) (X8 m c)
  have hw : w8all m c ⊢ bigSep (Finset.Ico 0 8) fun n => any_ c (w8R (bq n)) := by
    unfold w8all
    exact bigSep_mono fun n _ => any_intro c (w8R (bq n)) (W8 m c)
  unfold walkPost scratch ow
  rw [owed_last, ← x_pieces, ← w_pieces, ← o_pieces]
  iintro ⟨Hx, H8, Hw, Hw8, Ho, ⟨⟨Sx0, Sx1⟩, ⟨Sw0, Sw1⟩, Sst⟩, ⟨Sd0, Sd1⟩, ⟨Sr0, Sr1⟩, Hsem, HO⟩
  isplitl [Hx Hw Ho]
  · isplitl [Hx]; · iexact Hx
    isplitl [Hw] <;> iassumption
  isplitr [Hsem HO]
  · isplitl [H8]
    · iapply (x8_join c); iapply h8; iexact H8
    isplitl [Sx0 Sx1]
    · iapply (xs_join c); isplitl [Sx0] <;> iassumption
    isplitl [Hw8]
    · iapply (w8_join c); iapply hw; iexact Hw8
    isplitl [Sw0 Sw1]
    · iapply (ws_join c); isplitl [Sw0] <;> iassumption
    isplitl [Sd0 Sd1]
    · iapply (sd_join c); isplitl [Sd0] <;> iassumption
    isplitl [Sr0 Sr1]
    · iapply (rc_join c); isplitl [Sr0] <;> iassumption
    iapply (Entails.of_eq (st_whole c).symm); iexact Sst
  isplitl [Hsem] <;> iassumption

end Cert.RingProof

end
-- ==== Proof.Region.lean ====
/-
  The kernel as a region of the program: its cells opened, its body run, its state at either end.
-/
module

public import proofs.«01_k».proof.Proof.Deal

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : GSem nD τ sig → ℕ) (J : Key → ℕ)
variable (ρ : Dev nD → PrngReg)

open Idealize.ShloMosaic.Pipeline (Dat BodyObligation)

/-! ## The scale, read from its staged block -/

/-- The scale's block is one element: any index of it is the first. -/
theorem idx11 (i j : S1x1.Idx) : i = j := by
  funext a
  have hi := (i a).isLt
  have hj := (j a).isLt
  refine Fin.ext ?_
  have h : ∀ a : Fin S1x1.rank, S1x1.size a = 1 := by decide
  have ha := h a
  omega

theorem load_scale (M : Memref sig .tc .smem S1x1 .f32) (X : FVec F S1x1 .f32) (c : Dev nD) (g : Elt F .f32) (hg : ∀ i, X i = g) (Q : Elt F .f32 → sProp (MM F)) :
    owns (c : Thread nD τ) M fullShare X
      ⊢ iprop((owns (c : Thread nD τ) M fullShare X -∗ Q g)
        -∗ run c (smemLoad M (Rect.unit (s := S1x1) ![0, 0] S1x1.size inb_S1x1_S1x1_0_0) numel1_S1x1 rfl) Q) := by
  unfold owns smemLoad
  iintro ⟨%f, %hf, H⟩ HQ
  iapply (wp_smemLoadElt 𝒱₀ (c : Thread nD τ) none Set.univ (m := M) (r := Rect.unit (s := S1x1) ![0, 0] S1x1.size inb_S1x1_S1x1_0_0) (S := M.view.set) (q := fullShare) (f := f)
    (View.set_slice_subset _ _)) $$ H
  iintro H
  simp only [wp_ret]
  imodintro
  have e : ∀ x, (M.access (Rect.unit (s := S1x1) ![0, 0] S1x1.size inb_S1x1_S1x1_0_0)).read (Elt F) f x = g := fun x => by
    show M.view.read (Elt F) f ((Rect.unit (s := S1x1) ![0, 0] S1x1.size inb_S1x1_S1x1_0_0).emb x) = g
    rw [hf]
    exact hg _
  rw [e]
  iapply HQ
  iexists f
  isplitr; · ipureintro; exact hf
  iexact H

/-- The body's run: the device's own number, the scale loaded, then the rest. -/
theorem body_cut (c : Dev nD) (M : Memref sig .tc .smem S1x1 .f32) (R : PUnit → sProp (MM F)) :
    run c (bodyOf M) R = run c (smemLoad M (Rect.unit (s := S1x1) ![0, 0] S1x1.size inb_S1x1_S1x1_0_0) numel1_S1x1 rfl : Pg F _)
      fun g => run c (opening c >>= fun _ => afterOpen c g) R := by
  have e : bodyOf M = (Prog.op .deviceId fun d =>
      (smemLoad M (Rect.unit (s := S1x1) ![0, 0] S1x1.size inb_S1x1_S1x1_0_0) numel1_S1x1 rfl : Pg F _) >>= fun g => opening d >>= fun _ => afterOpen d g) := by
    unfold bodyOf afterOpen; rfl
  rw [e, ← run_bind]
  unfold run
  rw [wp_deviceId]

/-- The body: from a device's state at launch to its state at the end, the staged scale read and left. -/
theorem body_spec (c : Dev nD) (M : Memref sig .tc .smem S1x1 .f32) (X : FVec F S1x1 .f32) (hX : ∀ i, X i = gs m c) (Q : PUnit → sProp (MM F)) :
    iprop(ctx m K J ∗ walkPre m c ∗ owns (c : Thread nD τ) M fullShare X)
      ⊢ iprop(((walkPost m c ∗ owns (c : Thread nD τ) M fullShare X) -∗ Q ⟨⟩) -∗ run c (bodyOf M) Q) := by
  iintro ⟨#Hctx, Hpre, HM⟩ HQ
  iapply (wp_fupd frame (wpE defs₀ 𝒱₀ (c : Thread nD τ) none) Set.univ (bodyOf M) Q)
  iapply (Entails.of_eq (body_cut c M _).symm)
  iapply (load_scale M X c (gs m c) hX) $$ HM
  iintro HM
  iapply (walk_spec m K J c) $$ [Hpre]
  · isplitr; · iexact Hctx
    iexact Hpre
  iintro Hmid
  imod (walk_close m K J c) $$ [Hmid] with Hpost
  · isplitr; · iexact Hctx
    iexact Hmid
  imodintro
  iapply HQ
  isplitl [Hpost] <;> iassumption

/-! ## The buffers held -/

/-- The arrays that the body addresses itself. -/
def hs : Finset (DevRef τ sig) := {Proc.devRef .tc main_arg0, Proc.devRef .tc main_arg1, Proc.devRef .tc main_v5}
abbrev W0 (c : Dev nD) : Valuation τ sig (Elt F) := StableHlo.after hostOps0 (fun b => m (c, b))
def W1 (c : Dev nD) : Valuation τ sig (Elt F) := Function.update (W0 m c) (Proc.devRef .tc main_v5) (OUT m c)
theorem W1_v5 (c : Dev nD) : W1 m c (Proc.devRef .tc main_v5) = OUT m c := Function.update_self ..
theorem W1_ne (c : Dev nD) (b : DevRef τ sig) (h : b ≠ Proc.devRef .tc main_v5) : W1 m c b = W0 m c b := Function.update_of_ne h ..

theorem held_hs (c : Dev nD) (W : Valuation τ sig (Elt F)) : (StableHlo.held (c : Thread nD τ) hs W : sProp (MM F))
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v5) ↦{fullShare} W (Proc.devRef .tc main_v5))) := by
  unfold StableHlo.held
  rw [bigSep_eq_bigSepL_of_eq [Proc.devRef .tc main_arg0, Proc.devRef .tc main_arg1, Proc.devRef .tc main_v5] (by decide) (by decide)]
  rfl

/-! ## The cells of the region -/

abbrev KdO := {k : Kd // k ∈ kdAll.erase .bar}
def osem (k : KdO) : SemLoc sig := sm k.1
theorem osem_facts : Pipeline.OwnSemFacts spec0 osem := by decide
theorem ownSems_eq (c : Dev nD) : (Pipeline.ownSems0 osem c : sProp (MM F)) = bigSep (kdAll.erase .bar) fun k => semVal (cell c k) 0 := by
  have h := bigSep_subtype (fun k => k ∈ kdAll.erase .bar) (fun k => (semVal (cell c k) 0 : sProp (MM F)))
  rw [Finset.filter_univ_mem] at h
  exact h
theorem kdAll_bar (Φ : Kd → sProp (MM F)) : bigSep kdAll Φ = iprop(Φ .bar ∗ bigSep (kdAll.erase .bar) Φ) :=
  bigSep_erase (by decide)

/-- The invariants. -/
def invs : sProp (MM F) :=
  iprop((bigSep Finset.univ fun ck : Dev nD × Kd => cellInv ER (Rd m) (K (cell ck.1 ck.2)) (cell ck.1 ck.2))
    ∗ (bigSep Finset.univ fun y : Key => Release.slotInv ES (J y) y (any_ y.1 (rcS y.2.1 y.2.2))))
instance invs_persistent : BI.Persistent (invs m K J) := by unfold invs; infer_instance

def Tk (c : Dev nD) : sProp (MM F) :=
  iprop(∃ (K : GSem nD τ sig → ℕ) (J : Key → ℕ), invs m K J ∗ (bigSep (kdAll.erase .bar) fun k => openTok ER (cell c k)) ∗ open0 c .bar ∗ dealt c)
def Xk (c : Dev nD) : sProp (MM F) := iprop(∃ (K : GSem nD τ sig → ℕ) (J : Key → ℕ), ctx m K J ∗ (bigSep kdAll (open0 c)) ∗ dealt c)
def Yk (c : Dev nD) : sProp (MM F) := semVal (cell c .bar) 0

theorem open_one (c : Dev nD) (k : Kd) : iprop(ctx m K J ∗ (openTok ER (cell c k) ∗ semVal (cell c k) 0)) ⊢ (|={Set.univ}=> open0 c k : sProp (MM F)) := by
  unfold open0
  iintro ⟨#Hctx, Ho, Hs⟩
  imod (Rounds.cell_open ER (Rd m) (g := cell c k) (Set.mem_univ (K (cell c k)))) $$ [Ho Hs] with ⟨Ha, #Hr⟩
  · isplitr; · iapply (ctx_cell m K J c k); iexact Hctx
    isplitl [Ho] <;> iassumption
  imodintro
  isplitl [Ha]; · iexact Ha
  iexact Hr

theorem hopen (c : Dev nD) : iprop(Tk m c ∗ Pipeline.ownSems0 osem c ∗ levAts L lv) ⊢ (|={Set.univ}=> Xk m c : sProp (MM F)) := by
  rw [ownSems_eq]
  unfold Tk Xk
  iintro ⟨⟨%K, %J, #HI, Ho, Hb, Hd⟩, Hs, #Hlev⟩
  have hall : iprop(ctx m K J ∗ ((bigSep (kdAll.erase .bar) fun k => openTok ER (cell c k)) ∗ bigSep (kdAll.erase .bar) fun k => semVal (cell c k) 0))
      ⊢ (|={Set.univ}=> bigSep (kdAll.erase .bar) (open0 c) : sProp (MM F)) := by
    rw [← bigSep_sep']
    exact (bigSep_with_persistent fun k _ => open_one m K J c k).trans (bigSep_fupd _ _)
  have hctx : iprop(invs m K J ∗ levAts L lv) ⊢ ctx m K J := by
    unfold invs ctx
    iintro ⟨⟨H1, H2⟩, H3⟩
    isplitl [H1]; · iexact H1
    isplitl [H2] <;> iassumption
  ihave #Hctx := hctx $$ []
  · isplitr; · iexact HI
    iexact Hlev
  imod hall $$ [Ho Hs] with Ho
  · isplitr; · iexact Hctx
    isplitl [Ho] <;> iassumption
  imodintro
  iexists K
  iexists J
  isplitr; · iexact Hctx
  rw [kdAll_bar]
  isplitr [Hd]
  · isplitl [Hb] <;> iassumption
  iexact Hd

/-! ## The proof data -/

/-- Before the kernel's one grid point, and after it. -/
def phi0 (c : Dev nD) : sProp (MM F) := iprop(Xk m c ∗ bufs0 m c ∗ scratch c ∗ ∃ r, prngReg c r)
def phi1 (c : Dev nD) : sProp (MM F) :=
  iprop(StableHlo.held (c : Thread nD τ) hs (W1 m c) ∗ scratch c ∗ (bigSep kdAll fun k => semVal (cell c k) 0) ∗ ∃ r, prngReg c r)

def dat (c : Dev nD) : Dat τ (Elt F) ℕ ℕ UU ℕ cfg0 c where
  A w := V m c (Pipeline.arrRef spec0 w)
  after := fun | 0 => fun t => iblk m c 0 t | ⟨_ + 1, h⟩ => absurd h (Nat.not_lt.2 (Nat.le_add_left _ _))
  Φ t := if t.val = 0 then phi0 m c else phi1 m c
  q _ := fullShare
  owed t := if t.val = 0 then owed0 c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c := fun _ => dat m

theorem owed_zero (c : Dev nD) : (dat m c).owed 0 = owed0 c := rfl
theorem owed_end (c : Dev nD) (t : Fin (cfg0.N + 1)) (h : t.val ≠ 0) : (dat m c).owed t = 0 := if_neg h

theorem owesAt_intro (c : Dev nD) (t : Fin (cfg0.N + 1)) (O : CellTallies nD τ sig ℕ) (h0 : (dat m c).owed t = O) (W : Waits sig ℕ) :
    (owes (c : Thread nD τ) O W : sProp (MM F)) ⊢ ((dat m c).owesAt 0 t : sProp (MM F)) := by
  unfold Dat.owesAt Pipeline.owesWithin Dat.bound
  rw [h0, show (dat m c).recorded t = Set.univ from rfl]
  iintro HO
  iexists W
  isplitr; · ipureintro; exact fun _ _ => Or.inl trivial
  iexact HO
theorem owesAt_elim (c : Dev nD) (t : Fin (cfg0.N + 1)) (O : CellTallies nD τ sig ℕ) (h0 : (dat m c).owed t = O) :
    ((dat m c).owesAt 0 t : sProp (MM F)) ⊢ iprop(∃ W, owes (c : Thread nD τ) O W) := by
  unfold Dat.owesAt Pipeline.owesWithin
  rw [h0]
  iintro ⟨%W, -, HO⟩
  iexists W
  iexact HO

theorem before_eq (c : Dev nD) (t : Fin cfg0.N) (d) : (dat m c).before 0 t d = iblk m c 0 t :=
  ((dat m c).before_in_eq_fetched 0 rfl (fun _ => rfl) (fun _ _ _ => rfl) (fun t => by
    show iblk m c 0 t = _
    unfold Dat.blockOf iblk; try rfl) t d).trans (by unfold Dat.fetched Dat.blockOf iblk; try rfl)

/-- The scale's one block is the whole array. -/
theorem iblk_scale (c : Dev nD) (t : Fin cfg0.N) (i : S1x1.Idx) : iblk m c 0 t i = gs m c := by
  obtain rfl := fin_N0 t
  unfold iblk gs
  exact congrArg (GA m c) (idx11 _ _)

theorem body_at (t : Fin cfg0.N) : (defs₀ (F := F) .tc cfg0.body (cfg0.bodyArgs t (cfg0.slots t)) : Pg F PUnit) = bodyOf (st0_0 t) :=
  (show (defs₀ (F := F) .tc cfg0.body (cfg0.bodyArgs t (cfg0.slots t)) : Pg F PUnit) = bodyAt0 t from rfl).trans (body_eq _ _)

/-- The body obligation of the region's one window and one grid point. -/
theorem body_obl (c : Dev nD) : BodyObligation (dat m c) defs₀ 𝒱₀ 0 Set.univ := fun t => by
  obtain rfl := fin_N0 t
  rw [bigSep_W0, bigSep_W0]
  rw [show (dat m c).Φ t0_0.castSucc = phi0 m c from rfl, show (dat m c).Φ t0_0.succ = phi1 m c from rfl]
  rw [body_at t0_0]
  unfold phi0 phi1 Xk
  iintro ⟨⟨⟨%K, %J, #Hctx, Hopen, Hd⟩, Hb, Hscr, Hreg⟩, HO, ⟨%d, Hst⟩⟩
  rw [before_eq m c t0_0 d]
  ihave HO := (owesAt_elim m c _ (owed0 c) rfl) $$ HO
  iapply (body_spec m K J c _ _ (iblk_scale m c t0_0)) $$ [Hopen Hd Hb Hscr HO Hst]
  · isplitr; · iexact Hctx
    isplitr [Hst]
    · iapply (walkPre_intro m c)
      isplitl [Hopen]; · iexact Hopen
      isplitl [Hd]; · iexact Hd
      isplitl [Hb]; · iexact Hb
      isplitl [Hscr] <;> iassumption
    iexact Hst
  iintro ⟨Hpost, Hst⟩
  ihave Hpost := (walkPost_elim m c) $$ Hpost
  icases Hpost with ⟨⟨Hx, Hw, Ho⟩, Hscr, Hsem, ⟨%W, HO⟩⟩
  isplitr [HO Hst]
  · isplitl [Hx Hw Ho]
    · rw [held_hs, W1_v5, W1_ne m c _ (by decide), W1_ne m c _ (by decide)]
      isplitl [Hx]; · iexact Hx
      isplitl [Hw] <;> iassumption
    isplitl [Hscr]; · iexact Hscr
    isplitl [Hsem] <;> iassumption
  isplitl [HO]
  · iapply (owesAt_intro m c t0_0.succ 0 (owed_end m c _ (by decide)) W); iexact HO
  iexact Hst

theorem hin (c : Dev nD) : iprop(Pipeline.scopedRest (Pipeline.pin (pcfgs (F := F)) adm 0).spec c ∗ (∃ r, prngReg c r) ∗ StableHlo.held (c.tc : Thread nD τ) hs (W0 m c) ∗ Xk m c)
    ⊢ (pdats m 0 c).Φ 0 := by
  rw [show (pdats m 0 c).Φ 0 = phi0 m c from rfl, show (Pipeline.pin (pcfgs (F := F)) adm 0).spec = spec0 from rfl, scopedRest0_eq, held_hs]
  unfold phi0 bufs0 scratch scr
  iintro ⟨Hs, Hp, ⟨Hx, Hw, Ho⟩, HX⟩
  isplitl [HX]; · iexact HX
  isplitl [Hx Hw Ho]
  · isplitl [Hx]; · iexact Hx
    isplitl [Hw]; · iexact Hw
    iexists _
    iexact Ho
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) hs (W1 m c) ∗ Pipeline.ownSems0 osem c ∗ Yk c) := by
  rw [show (pdats m 0 c).Φ (Fin.last _) = phi1 m c from rfl, show (Pipeline.pin (pcfgs (F := F)) adm 0).spec = spec0 from rfl, scopedRest0_eq, ownSems_eq]
  unfold phi1 scratch scr Yk
  rw [kdAll_bar]
  iintro ⟨Hh, Hs, ⟨Hb, Hss⟩, Hp⟩
  isplitl [Hs]; · iexact Hs
  isplitl [Hp]; · iexact Hp
  isplitl [Hh]; · iexact Hh
  isplitl [Hss] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin ((Pipeline.pin (pcfgs (F := F)) adm 0).N + 1)) (g : GSem nD τ sig) (i : ℕ) (h : 0 < (pdats m 0 c).owed t g i) :
    i ∈ L g ∧ (0 : ℕ) < lv g i := by
  have bar {d : Dev nD} (h : 0 < (tallyAt (cell d .bar) 0 1 : CellTallies nD τ sig ℕ) g i) : i ∈ L g ∧ (0 : ℕ) < lv g i := by
    obtain ⟨rfl, rfl⟩ := tallyAt_pos h
    exact ⟨by rw [L_tc]; decide, by rw [lv_cell d .bar (by decide)]; decide⟩
  have e : (pdats m 0 c).owed t = if t.val = 0 then owed0 c else 0 := rfl
  rw [e] at h
  split at h
  · unfold owed0 at h
    rw [Pi.add_apply, Pi.add_apply, Finsupp.add_apply, Finsupp.add_apply] at h
    rcases Nat.add_pos_iff_pos_or_pos.mp h with h | h
    · rcases Nat.add_pos_iff_pos_or_pos.mp h with h | h
      · obtain ⟨h1, h2⟩ := owed_pos h
        exact ⟨h1, lt_of_lt_of_le (by decide) h2⟩
      · exact bar h
    · exact bar h
  · exact absurd h (Nat.lt_irrefl 0)

/-! ## The region -/

def srest : Finset (DevRef τ sig) := Pipeline.ucRefs τ sig \ Pipeline.arrRefs (τ := τ) (pcfgs (F := F) 0).spec
theorem hs_sub : hs ⊆ srest (F := F) := by
  unfold srest
  show hs ⊆ Pipeline.ucRefs τ sig \ Pipeline.arrRefs (τ := τ) spec0
  decide

theorem last_ne : (Fin.last (Pipeline.pin (pcfgs (F := F)) adm 0).N).val ≠ 0 := by
  show cfg0.N ≠ 0
  decide
theorem stage_lv (c : Dev nD) : 0 ∈ L ((c : Thread nD τ), .dma (sem0_0 0)) := by rw [L_tc]; decide
theorem stage_le (c : Dev nD) : lv ((c : Thread nD τ), .dma (sem0_0 0)) 0 ≤ 0 := by
  show lvK (kd (.dma (sem0_0 0))) 0 ≤ 0
  decide

set_option backward.isDefEq.respectTransparency.types false in
def reg : Pipeline.RegionSeg (Name := ℕ) (U := UU) (pcfgs (F := F)) adm (pdats m) 0 defs₀ 𝒱₀ L lv 0 :=
  Pipeline.RegionSeg.ofTalk (pcfgs (F := F)) adm (pdats m) 0 defs₀ 𝒱₀ L lv 0 osem osem_facts
    hs (srest (F := F)) (hs_sub (F := F)) kitP rfl (fun c => (body_obl m c).loose)
    (fun _ => 0) owed0 (fun c => (owed_zero m c).trans (zero_add _).symm) (fun c => owed_end m c _ last_ne) (fun _ => rfl) (fun _ w => by fin_cases w; rfl)
    (W0 m) (W1 m) (fun c b hb => W1_ne m c b fun h => by subst h; exact (Finset.mem_sdiff.mp hb).2 (by decide))
    (Tk m) Yk (Xk m) Yk (hopen m) (hin m) (hout m)
    (fun c => by iintro H; imodintro; iexact H)
    (fun _ => 0)
    ⟨fun c w s => by fin_cases w; fin_cases s; exact stage_lv c, fun c w s => by fin_cases w; fin_cases s; exact stage_le c, fun c t g i h => cut m c t g i h⟩
    (fun _ => iprop(emp))
    (fun _ w => by fin_cases w; rfl)
    (fun c w => by fin_cases w; exact ((dat m c).arrAt_in 0 rfl _).trans (W1_ne m c _ (by decide)).symm)

theorem arr_sub : Pipeline.arrRefs (τ := τ) (pcfgs (F := F) 0).spec ⊆ Pipeline.ucRefs τ sig :=
  Pipeline.arrRefs_sub_ucRefs (τ := τ) spec0 (by decide)

theorem reg_pre (c : Dev nD) : iprop(StableHlo.held (c : Thread nD τ) (Pipeline.ucRefs τ sig) (W0 m c) ∗ Tk m c ∗ (∃ r, prngReg c r) ∗ ∃ W, owes (c : Thread nD τ) (owed0 c) W) ⊢ (reg m).pre c := by
  show _ ⊢ iprop(StableHlo.held (c.tc : Thread nD τ) (Pipeline.arrRefs (τ := τ) (pcfgs (F := F) 0).spec) (W0 m c) ∗ (∃ r, prngReg c r)
    ∗ (StableHlo.held (c.tc : Thread nD τ) srest (W0 m c) ∗ emp) ∗ Tk m c ∗ ∃ Wd, owes (c : Thread nD τ) (0 + owed0 c) Wd)
  rw [zero_add, StableHlo.held_sub_split (c.tc : Thread nD τ) (arr_sub (F := F)) (W0 m c)]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c
    ⊢ iprop(StableHlo.held (c : Thread nD τ) (Pipeline.ucRefs τ sig) (W1 m c) ∗ (semVal (cell c .bar) 0 ∗ ∃ W, owes (c : Thread nD τ) (0 : CellTallies nD τ sig ℕ) W)) := by
  show iprop(StableHlo.held (c.tc : Thread nD τ) (Pipeline.arrRefs (τ := τ) (pcfgs (F := F) 0).spec) (W1 m c) ∗ (∃ r, prngReg c r)
    ∗ (StableHlo.held (c.tc : Thread nD τ) srest (W1 m c) ∗ emp) ∗ Yk c ∗ ∃ Wd, owes (c : Thread nD τ) (0 : CellTallies nD τ sig ℕ) Wd) ⊢ _
  rw [StableHlo.held_sub_split (c.tc : Thread nD τ) (arr_sub (F := F)) (W1 m c)]
  unfold Yk
  iintro ⟨Ha, -, ⟨Hr, -⟩, Hb, HO⟩
  isplitl [Ha Hr]
  · isplitl [Ha]; · iexact Ha
    iexact Hr
  isplitl [Hb]; · iexact Hb
  iexact HO

end Cert.RingProof

end
-- ==== Proof.Run.lean ====
/-
  The launch: every cell's and slot's invariant allocated, the ghost state dealt to the devices, and the run of the program over
  any floats: the argument arrays end unchanged, the result array holds what the ring computes, every semaphore reads zero.
-/
module

public import proofs.«01_k».proof.Proof.Region

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : GSem nD τ sig → ℕ) (J : Key → ℕ)

variable (ρ : Dev nD → PrngReg)

/-! ## The segments -/

/-- What rides beside the buffers up to the region. -/
def R (c : Dev nD) : sProp (MM F) := iprop(Tk m c ∗ (∃ r, prngReg c r) ∗ ∃ W, owes (c : Thread nD τ) (owed0 c) W)

def host : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) (R m)

def segs : List (Pipeline.Seg (pcfgs (F := F)) adm (pdats m) 0 defs₀ 𝒱₀ L lv) := [.host (host m), .region (reg m)]

theorem main_eq (c : Dev nD) : main (F := F) c = Pipeline.Seg.run (segs m) :=
  main_segs adm (pdats m) 0 𝒱₀ L lv (host m) (reg m) rfl c

/-! ## The launch -/

theorem big_pair {Φ Ψ : Dev nD → sProp (MM F)} : iprop(bigSep Finset.univ Φ ∗ bigSep Finset.univ Ψ) ⊢ bigSep Finset.univ (fun c => iprop(Φ c ∗ Ψ c)) :=
  Entails.of_eq (bigSep_sep' ..).symm
theorem big_unpair {Φ Ψ : Dev nD → sProp (MM F)} : bigSep Finset.univ (fun c => iprop(Φ c ∗ Ψ c)) ⊢ iprop(bigSep Finset.univ Φ ∗ bigSep Finset.univ Ψ) :=
  Entails.of_eq (bigSep_sep' ..)

theorem mem_erase_bar (k : Kd) (h : k ≠ .bar) (h' : k ≠ .none) : k ∈ kdAll.erase .bar :=
  Finset.mem_erase.mpr ⟨h, Finset.mem_erase.mpr ⟨h', Finset.mem_univ _⟩⟩
theorem kdO_ne (k : KdO) : k.1 ≠ .none := fun h => absurd k.2 (by rw [h]; decide)

def barE : Dev nD ↪ GSem nD τ sig := ⟨fun c => cell c .bar, fun _ _ h => congrArg (fun g : GSem nD τ sig => g.1.1) h⟩
def scE : Dev nD × KdO ↪ GSem nD τ sig :=
  ⟨fun ck => cell ck.1 ck.2.1, fun x y h => Prod.ext (congrArg (fun g : GSem nD τ sig => g.1.1) h)
    (Subtype.ext (sm_inj _ _ (kdO_ne x.2) (kdO_ne y.2) (congrArg Prod.snd h)))⟩
abbrev barCells : Finset (GSem nD τ sig) := Finset.univ.map barE
abbrev scCells : Finset (GSem nD τ sig) := Finset.univ.map scE
theorem disjoint_cells : Disjoint barCells scCells := by
  rw [Finset.disjoint_left]
  rintro g h₁ h₂
  obtain ⟨c, -, rfl⟩ := Finset.mem_map.mp h₁
  obtain ⟨ck, -, h⟩ := Finset.mem_map.mp h₂
  have e := sm_inj ck.2.1 .bar (kdO_ne ck.2) (by decide) (congrArg Prod.snd h)
  exact (Finset.mem_erase.mp ck.2.2).1 e
theorem cell_mem (c : Dev nD) (k : Kd) : cell c k ∈ barCells ∪ scCells := by
  have h : ∀ k : Kd, k ≠ .bar → k ≠ .none → cell c k ∈ barCells ∪ scCells := fun k hb hn =>
    Finset.mem_union_right _ (Finset.mem_map_of_mem scE (Finset.mem_univ (c, (⟨k, mem_erase_bar k hb hn⟩ : KdO))))
  by_cases hb : k = .bar
  · subst hb; exact Finset.mem_union_left _ (Finset.mem_map_of_mem barE (Finset.mem_univ c))
  by_cases hn : k = .none
  · subst hn; exact h .copy (by decide) (by decide)
  exact h k hb hn

/-- The launch element: the pipeline library's; the rounds' with every token; the slots'. -/
def u₀ : UU :=
  (initOf (Pipeline.cells (Pipeline.pin (pcfgs (F := F)) adm) cellOf_inj) (Pipeline.launchToks (Pipeline.pin (pcfgs (F := F)) adm) cellOf_inj),
    (launchOf barCells scCells toks, Release.initSlots keys 3))

/-- A resource given to device 0 for the global step. -/
def onZero (X : sProp (MM F)) (c : Dev nD) : sProp (MM F) := if c = 0 then X else iprop(emp)
theorem onZero_all (X : sProp (MM F)) : bigSep Finset.univ (onZero X) = X := by
  rw [bigSep_univ_at _ (0 : Dev nD), bigSep_congr (s := Finset.univ.erase (0 : Dev nD)) (Ψ := fun _ => (BI.emp : sProp (MM F)))
      fun c hc => by unfold onZero; rw [if_neg (Finset.ne_of_mem_erase hc)]; rfl, BI.bigSep_emp_const]
  unfold onZero; rw [if_pos rfl]
  exact BI.equiv_iff.mp sep_emp

def fund : sProp (MM F) := iprop(BI.own (ER (launchOf barCells scCells toks)) ∗ BI.own (ES (Release.initSlots keys 3)))

def records : sProp (MM F) := iprop(invs m K J ∗ bigSep Finset.univ fun c : Dev nD => reached ER (cell c .bar) 0)
instance records_persistent : BI.Persistent (records m K J) := by unfold records; infer_instance

def linear (c : Dev nD) : sProp (MM F) :=
  iprop((bigSep (kdAll.erase .bar) fun k => openTok ER (cell c k)) ∗ atPos ER (cell c .bar) 0 ∅ 0 ∗ spendT c
    ∗ (writeT 0 (dstD c 0) ∗ writeT 1 (dstD c 1)) ∗ readers c)

abbrev V0 (c : Dev nD) : Valuation τ sig (Elt F) := fun b => m (c, b)
def bundle (c : Dev nD) : sProp (MM F) :=
  iprop(StableHlo.held (c : Thread nD τ) (Pipeline.ucRefs τ sig) (V0 m c) ∗ gold c ∗ owes (c : Thread nD τ) (owed0 c) ∅ ∗ ∃ r, prngReg c r)
abbrev T₀ (c : Dev nD) : sProp (MM F) := iprop(StableHlo.held (c : Thread nD τ) (Pipeline.ucRefs τ sig) (V0 m c) ∗ R m c)
abbrev Tₙ (c : Dev nD) : sProp (MM F) := iprop(StableHlo.held (c : Thread nD τ) (Pipeline.ucRefs τ sig) (W1 m c) ∗ semVal (cell c .bar) 0)

theorem T₀_intro (c : Dev nD) : iprop(records m K J ∗ (linear c ∗ bundle m c)) ⊢ T₀ m c := by
  have hr : ∀ d : Dev nD, (bigSep Finset.univ fun c : Dev nD => (reached ER (cell c .bar) 0 : sProp (MM F))) ⊢ reached ER (cell d .bar) 0 :=
    fun d => bigSep_elim (Finset.mem_univ d)
  unfold records linear bundle T₀ R Tk dealt open0
  iintro ⟨⟨#HI, #HR⟩, ⟨Ho, Hb, Ht, Hw, Hrd⟩, Hh, Hg, HO, Hp⟩
  isplitl [Hh]; · iexact Hh
  isplitr [Hp HO]
  · iexists K
    iexists J
    isplitr; · iexact HI
    isplitl [Ho]; · iexact Ho
    isplitl [Hb]
    · isplitl [Hb]; · iexact Hb
      iapply (hr c); iexact HR
    isplitl [Ht]; · iexact Ht
    isplitl [Hw]; · iexact Hw
    isplitl [Hrd]; · iexact Hrd
    isplitl [Hg]; · iexact Hg
    isplitr; · iapply (hr (lf c)); iexact HR
    iapply (hr (rt c)); iexact HR
  isplitl [Hp]; · iexact Hp
  iexists ∅
  iexact HO

theorem unscopedSems0_eq (c : Dev nD) : (unscopedSems0 c : sProp (MM F)) = semVal (cell c .bar) 0 := by
  unfold unscopedSems0
  rw [show (Finset.univ.filter fun s : SemLoc sig => ¬ s.isScoped .tc) = {sm .bar} from by decide, BI.bigSep_singleton]

theorem readers_deal : (bigSep keys fun y => (Release.readerAt ES y 0 : sProp (MM F))) ⊢ bigSep Finset.univ fun c : Dev nD => readers c := by
  unfold keys
  rw [bigSep_univ_prod]
  refine bigSep_mono fun c _ => ?_
  rw [bigSep_univ_prod, bigSep_univ_two]
  unfold readers
  exact BI.Entails.refl _

theorem invs_intro : iprop((bigSep (barCells ∪ scCells) fun g => cellInv ER (Rd m) (K g) g)
    ∗ (bigSep keys fun y => Release.slotInv ES (J y) y (any_ y.1 (rcS y.2.1 y.2.2)))) ⊢ invs m K J := by
  have h : (bigSep (barCells ∪ scCells) fun g => (cellInv ER (Rd m) (K g) g : sProp (MM F)))
      ⊢ bigSep Finset.univ fun ck : Dev nD × Kd => cellInv ER (Rd m) (K (cell ck.1 ck.2)) (cell ck.1 ck.2) :=
    bigSep_intro_persistent fun ck _ => bigSep_elim (cell_mem ck.1 ck.2)
  unfold invs
  iintro ⟨H1, H2⟩
  isplitl [H1]; · iapply h; iexact H1
  iexact H2

/-- The kit's global step. -/
theorem init :
    iprop((bigSep Finset.univ fun c : Dev nD => iprop(unscopedBufs c (fun b => m ((c : Thread nD τ).loc b)) ∗ unscopedSems0 c
          ∗ owes (c : Thread nD τ) (owed0 c) ∅ ∗ Pipeline.launchCred owed0 c ∗ prngReg c (ρ c) ∗ onZero fund c)) ∗ levAts L lv)
      ⊢ (|={Set.univ}=> bigSep Finset.univ (T₀ m) : sProp (MM F)) := by
  have hcore (c : Dev nD) : iprop(unscopedBufs c (fun b => m ((c : Thread nD τ).loc b)) ∗ unscopedSems0 c
        ∗ owes (c : Thread nD τ) (owed0 c) ∅ ∗ Pipeline.launchCred owed0 c ∗ prngReg c (ρ c) ∗ onZero fund c)
      ⊢ (iprop(bundle m c ∗ (semVal (cell c .bar) 0 ∗ onZero fund c)) : sProp (MM F)) := by
    rw [show unscopedBufs c (fun b => m ((c : Thread nD τ).loc b)) = StableHlo.held (c : Thread nD τ) (Pipeline.ucRefs τ sig) (V0 m c)
        from Pipeline.unscopedBufs_held c (V0 m c), unscopedSems0_eq]
    unfold bundle
    iintro ⟨Hh, Hus, HO, Hcr, Hp, HG⟩
    ihave Hc := (gold_deal (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (cell c .bar) 0 : sProp (MM F))) ⊢ bigSep barCells (fun g => (semVal g 0 : sProp (MM F))) :=
    Entails.of_eq (bigSep_map (s := Finset.univ) barE (Φ := fun g : GSem nD τ sig => (semVal g 0 : sProp (MM F)))).symm
  have hat : bigSep barCells (fun g => (atPos ER g 0 ∅ 0 : sProp (MM F))) ⊢ bigSep Finset.univ (fun c : Dev nD => (atPos ER (cell c .bar) 0 ∅ 0 : sProp (MM F))) :=
    Entails.of_eq (bigSep_map (s := Finset.univ) barE (Φ := fun g : GSem nD τ sig => (atPos ER g 0 ∅ 0 : sProp (MM F))))
  have hrc : bigSep barCells (fun g => (reached ER g 0 : sProp (MM F))) ⊢ bigSep Finset.univ (fun c : Dev nD => (reached ER (cell c .bar) 0 : sProp (MM F))) :=
    Entails.of_eq (bigSep_map (s := Finset.univ) barE (Φ := fun g : GSem nD τ sig => (reached ER g 0 : sProp (MM F))))
  have hop : bigSep scCells (fun g => (openTok ER g : sProp (MM F)))
      ⊢ bigSep Finset.univ (fun c : Dev nD => bigSep (kdAll.erase .bar) fun k => (openTok ER (cell c k) : sProp (MM F))) := by
    rw [bigSep_map, bigSep_univ_prod]
    refine bigSep_mono fun c _ => ?_
    have h := bigSep_subtype (fun k => k ∈ kdAll.erase .bar) (fun k => (openTok ER (cell c k) : sProp (MM F)))
    rw [Finset.filter_univ_mem] at h
    exact Entails.of_eq h
  iintro ⟨H, -⟩
  ihave H' := (show (bigSep Finset.univ fun c : Dev nD => iprop(unscopedBufs c (fun b => m ((c : Thread nD τ).loc b)) ∗ unscopedSems0 c
          ∗ owes (c : Thread nD τ) (owed0 c) ∅ ∗ Pipeline.launchCred owed0 c ∗ prngReg c (ρ c) ∗ onZero fund c))
      ⊢ (bigSep Finset.univ fun c : Dev nD => iprop(bundle m c ∗ (semVal (cell c .bar) 0 ∗ onZero fund c)) : sProp (MM F)) from bigSep_mono fun c _ => hcore c) $$ H
  ihave H2 := big_unpair $$ H'; icases H2 with ⟨HB, H3⟩
  ihave H4 := big_unpair $$ H3; icases H4 with ⟨Hv, HG⟩
  ihave Hu := (show bigSep Finset.univ (onZero (F := F) fund) ⊢ iprop(BI.own (ER (launchOf barCells scCells toks)) ∗ BI.own (ES (Release.initSlots keys 3))) from
    Entails.of_eq (onZero_all (F := F) fund)) $$ HG
  icases Hu with ⟨Hu, Hsl⟩
  imod (Rounds.fund_launch ER (Rd m) disjoint_cells (fun g _ h => h) toks) $$ [Hv Hu] with ⟨%κ, -, #Hinv, #Hr, Hat, Hopen, Htok⟩
  · isplitl [Hv]; · iapply hv $$ Hv
    iexact Hu
  imod (Release.slots_init ES keys 3 (fun y : Key => (any_ y.1 (rcS y.2.1 y.2.2) : sProp (MM F)))) $$ Hsl with ⟨%ι, -, #Hslot, Hread, Hwrite⟩
  imodintro
  iapply (bigSep_with_persistent (R := records m κ ι) (Φ := fun c => iprop(linear c ∗ bundle m c)) fun c _ => T₀_intro m κ ι c)
  isplitr
  · unfold records
    isplitr
    · iapply (invs_intro m κ ι)
      isplitr; · iexact Hinv
      iexact Hslot
    iapply hrc; iexact Hr
  iapply big_pair
  isplitr [HB]
  · unfold linear
    iapply big_pair; isplitl [Hopen]; · iapply hop $$ Hopen
    iapply big_pair; isplitl [Hat]; · iapply hat $$ Hat
    iapply big_pair; isplitl [Htok]; · iapply (tokens_deal (F := F)) $$ Htok
    iapply big_pair; isplitl [Hwrite]; · iapply (writes_deal (F := F)) $$ Hwrite
    iapply (readers_deal (F := F)) $$ Hread
  · iexact HB

/-! ## The run -/

theorem unscoped_eq : ∀ s : SemLoc sig, s.isScoped .tc = false → s = sm .bar := by decide

/-- The five arrays that the claims read. -/
def ends : Finset (DevRef τ sig) :=
  {Proc.devRef .tc main_arg0, Proc.devRef .tc main_arg1, Proc.devRef .tc main_arg2, Proc.devRef .tc main_arg3, Proc.devRef .tc main_v5}
theorem held_ends (c : Dev nD) (W : Valuation τ sig (Elt F)) : (StableHlo.held (c : Thread nD τ) ends W : sProp (MM F))
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_v5) ↦{fullShare} W (Proc.devRef .tc main_v5))) := by
  unfold StableHlo.held
  rw [bigSep_eq_bigSepL_of_eq [Proc.devRef .tc main_arg0, Proc.devRef .tc main_arg1, Proc.devRef .tc main_arg2, Proc.devRef .tc main_arg3, Proc.devRef .tc main_v5] (by decide) (by decide)]
  rfl
theorem ends_sub : ends ⊆ Pipeline.ucRefs τ sig := by decide

set_option backward.isDefEq.respectTransparency.types false in
/-- The run: from any memory with zero counters every weakly fair execution on the four devices terminates, and every final state
    has the argument arrays unchanged, the result array at `OUT`, and every semaphore of the machine at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc main_v5) = OUT m c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed0) (hL := L_of_ne) (G := onZero fund) (u₀ := u₀)
    (hu₀ := by
      unfold u₀
      iintro Hu
      ihave H := (ownU_pair _ _) $$ Hu
      icases H with ⟨HP, HX⟩
      ihave HX := (own_pair_emb embR _ _) $$ HX
      imodintro
      isplitl [HP]; · iexact HP
      rw [onZero_all]
      unfold fund
      iexact HX)
    (T₀ := T₀ m) (Tₙ := Tₙ m)
    (hch := by
      refine ⟨fun c => .rfl, fun c => reg_pre m c, fun c => (reg_post m c).trans ?_⟩
      iintro ⟨Hh, Hb0, HO⟩
      isplitr [HO]
      · isplitl [Hh] <;> iassumption
      · iexact HO)
    (hinit := init m ρ)
    (QY := fun c s => (s.mem ((c : Thread nD τ).loc main_arg0) = W1 m c (Proc.devRef .tc main_arg0) ∧ s.mem ((c : Thread nD τ).loc main_arg1) = W1 m c (Proc.devRef .tc main_arg1)
        ∧ s.mem ((c : Thread nD τ).loc main_arg2) = W1 m c (Proc.devRef .tc main_arg2) ∧ s.mem ((c : Thread nD τ).loc main_arg3) = W1 m c (Proc.devRef .tc main_arg3)
        ∧ s.mem ((c : Thread nD τ).loc main_v5) = W1 m c (Proc.devRef .tc main_v5)) ∧ s.sem (cell c .bar) = 0)
    (hfin := fun c s' => by
      dsimp only [Tₙ]
      rw [StableHlo.held_sub_split (c.tc : Thread nD τ) ends_sub (W1 m c), held_ends]
      iintro ⟨⟨⟨⟨H0, H1, H2, H3, H5⟩, -⟩, Hb0⟩, HSI⟩
      icombine HSI H0 gives %h0
      icombine HSI H1 gives %h1
      icombine HSI H2 gives %h2
      icombine HSI H3 gives %h3
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h5⟩,
          by simpa using hb⟩
      iexact HSI)
    (hQ := fun s h hs => ⟨fun c => by
        obtain ⟨⟨h0, h1, h2, h3, h5⟩, -⟩ := h c
        rw [W1_ne m c _ (by decide)] at h0 h1 h2 h3
        rw [W1_v5] at h5
        exact ⟨⟨h0.trans (V_main_arg0 m c), h1.trans (V_main_arg1 m c), h2.trans (V_main_arg2 m c), h3.trans (V_main_arg3 m c)⟩, h5⟩,
      sem_eq_zero hs fun c s hsm => by
        obtain rfl := unscoped_eq s hsm
        exact (h c).2⟩)

end Cert.RingProof

end
-- ==== Proof.Ref.lean ====
/-
  The run of the reference program: one device holding the whole arrays computes the whole product, the scaling and the
  maximum with zero, and leaves its four arguments alone.
-/
module

public import Idealize.ShloMosaic.Lib.StableHlo.Run
public import proofs.«01_k».proof.Proof.Gen.ReferenceIdeal

@[expose] public section

noncomputable section

namespace Cert.WholeProof

open Cert.ReferenceIdeal Cert.ReferenceIdeal.Gen
open Idealize.ShloMosaic Idealize.ShloMosaic.TcCoe Idealize.ShloMosaic.StableHlo Idealize.SL.Sem

variable {F : FTy → Type} [FloatOps F]

/-- The result of the reference as a function of its arguments: `max (x w · (s t)) 0`. -/
def whole (x : FVec F S4096x4096 .f32) (w : FVec F S4096x8192 .f32) (s t : FVec F S1 .f32) : FVec F S4096x8192 .f32 :=
  maximumf
    (mulf (Host.dotGeneral dot_S4096x4096_S4096x8192_S4096x8192_1_0_0_1_n_n none x w)
      (broadcastInDim S4096x8192 ![0, 1] bcast_S1x1_S4096x8192_0_1 (broadcastInDim S1x1 ![1] bcast_S1_S1x1_1 (mulf s t))))
    (broadcastInDim S4096x8192 ![] bcast_S_S4096x8192 (constant S_ .f32 0x00000000#32))

/-- The operations of the reference, in order. -/
abbrev steps : List (HloOp τ sig (Elt F)) :=
  [ binary main_arg0 main_arg1 main_v0 ((fun l r => Host.dotGeneral dot_S4096x4096_S4096x8192_S4096x8192_1_0_0_1_n_n none l r) : (⟨S4096x4096, .f32⟩ : BufTy).Contents (Elt F) → (⟨S4096x8192, .f32⟩ : BufTy).Contents (Elt F) → (⟨S4096x8192, .f32⟩ : BufTy).Contents (Elt F)),
    binary main_arg2 main_arg3 main_v1 (mulf : (⟨S1, .f32⟩ : BufTy).Contents (Elt F) → (⟨S1, .f32⟩ : BufTy).Contents (Elt F) → (⟨S1, .f32⟩ : BufTy).Contents (Elt F)),
    unary main_v1 main_v2 (broadcastInDim S1x1 ![1] bcast_S1_S1x1_1 : (⟨S1, .f32⟩ : BufTy).Contents (Elt F) → (⟨S1x1, .f32⟩ : BufTy).Contents (Elt F)),
    unary main_v2 main_v3 (broadcastInDim S4096x8192 ![0, 1] bcast_S1x1_S4096x8192_0_1 : (⟨S1x1, .f32⟩ : BufTy).Contents (Elt F) → (⟨S4096x8192, .f32⟩ : BufTy).Contents (Elt F)),
    binary main_v0 main_v3 main_v4 (mulf : (⟨S4096x8192, .f32⟩ : BufTy).Contents (Elt F) → (⟨S4096x8192, .f32⟩ : BufTy).Contents (Elt F) → (⟨S4096x8192, .f32⟩ : BufTy).Contents (Elt F)),
    nullary main_cst (constant S_ .f32 0x00000000#32),
    unary main_cst main_v5 (broadcastInDim S4096x8192 ![] bcast_S_S4096x8192 : (⟨S_, .f32⟩ : BufTy).Contents (Elt F) → (⟨S4096x8192, .f32⟩ : BufTy).Contents (Elt F)),
    binary main_v4 main_v5 main_v6 (maximumf : (⟨S4096x8192, .f32⟩ : BufTy).Contents (Elt F) → (⟨S4096x8192, .f32⟩ : BufTy).Contents (Elt F) → (⟨S4096x8192, .f32⟩ : BufTy).Contents (Elt F)) ]

theorem main_steps (c : Dev nD) : main (F := F) c = seq steps := rfl

/-- What the operations leave at the result. -/
theorem steps_v6 (V : Valuation τ sig (Elt F)) : after steps V (main_v6 : DevRef τ sig)
    = whole (V (main_arg0 : DevRef τ sig)) (V (main_arg1 : DevRef τ sig)) (V (main_arg2 : DevRef τ sig)) (V (main_arg3 : DevRef τ sig)) := by
  after_results
  rfl
/-- The operations leave the four arguments alone. -/
theorem steps_args (V : Valuation τ sig (Elt F)) :
    after steps V (main_arg0 : DevRef τ sig) = V (main_arg0 : DevRef τ sig)
    ∧ after steps V (main_arg1 : DevRef τ sig) = V (main_arg1 : DevRef τ sig)
    ∧ after steps V (main_arg2 : DevRef τ sig) = V (main_arg2 : DevRef τ sig)
    ∧ after steps V (main_arg3 : DevRef τ sig) = V (main_arg3 : DevRef τ sig) := by
  refine ⟨?_, ?_, ?_, ?_⟩ <;> after_results

theorem steps_tc : (steps : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub ..⟩

/-- The reference has no semaphore. -/
theorem no_sem : IsEmpty (SemLoc sig) := by
  constructor
  intro s
  cases s <;> rename_i a <;> exact a.elim0

/-- From any memory the reference terminates with `whole` of its arguments at the result, its arguments as they were and
    no semaphore counter off zero. -/
theorem run_whole (m : (ℓ : Loc nD τ sig) → Buf (Elt F) ℓ) (ρ : Dev nD → PrngReg) :
    θ_run defs (onTc (τ := τ) (main (F := F))) ⟨m, fun _ => 0, ρ⟩ fun r =>
      (∀ c : Dev nD, (r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
        ∧ r.2.mem ((c.tc : Thread nD τ).loc main_v6) = whole (m ((c.tc : Thread nD τ).loc main_arg0)) (m ((c.tc : Thread nD τ).loc main_arg1))
            (m ((c.tc : Thread nD τ).loc main_arg2)) (m ((c.tc : Thread nD τ).loc main_arg3)))
        ∧ r.2.sem = fun _ => 0 :=
  (θ_run defs _ _).mono (fun _ h => ⟨fun c =>
      ⟨⟨(h c main_arg0).trans (steps_args _).1, (h c main_arg1).trans (steps_args _).2.1,
        (h c main_arg2).trans (steps_args _).2.2.1, (h c main_arg3).trans (steps_args _).2.2.2⟩,
       (h c main_v6).trans (steps_v6 _)⟩, funext fun g => no_sem.elim g.2⟩)
    (run_seq (by decide) (by decide) defs main (fun _ => steps) main_steps (fun _ => steps_tc) m ρ)

end Cert.WholeProof

end
-- ==== Proof.Frames.lean ====
/-
  What every run of the two printings of the kernel leaves: the four arguments as they were, no semaphore counter off zero.
  The two printings are the same program; the run is proved once, for any float values.
-/
module

public import proofs.«01_k».proof.Defs
public import proofs.«01_k».proof.Proof.Gen.Kernel
public import proofs.«01_k».proof.Proof.Run
public import proofs.«01_k».proof.Proof.Ref

@[expose] public section

noncomputable section

namespace Cert.RingProof

open Idealize.ShloMosaic Idealize.SL.Sem

instance : Cert.Kernel.Facts := Cert.Kernel.Gen.facts

/-- The two printings have the same kernel body. -/
theorem kernel_defs₀ : Cert.Kernel.defs₀ (F := Bits) = Cert.KernelIdeal.defs₀ (F := Bits) := by
  refine congrArg Defs.onTc (funext fun l => funext fun x => ?_)
  match l, x with
  | 0, (t, s) => rfl

/-- So they have the same calls. -/
theorem kernel_defs : Cert.Kernel.defs (F := Bits) = Cert.KernelIdeal.defs (F := Bits) :=
  congrArg (Pipeline.defs (Cert.KernelIdeal.pcfgs (F := Bits))) kernel_defs₀

set_option maxHeartbeats 2000000 in
/-- Every run of the kernel at the machine's floats ends, with its arguments and its semaphore counters as they were. -/
theorem frame_kernel : Cert.quiescent_Kernel (hKernel := Cert.Kernel.Gen.facts) := fun m ρ _ => by
  have e : ∀ d, d = Cert.KernelIdeal.defs (F := Bits) →
      θ_run d (onTc (τ := Cert.KernelIdeal.τ) (Cert.KernelIdeal.main (F := Bits))) ⟨m, fun _ => 0, ρ⟩ fun r =>
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0 := by
    rintro _ rfl
    exact (θ_run Cert.KernelIdeal.defs _ _).mono (fun _ h => ⟨fun c => (h.1 c).1, h.2⟩) (run_main (F := Bits) m ρ)
  exact e _ kernel_defs

/-- The same over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (run_main (F := Ideal) m ρ)

/-- The same of the reference. -/
theorem frame_reference : Cert.quiescent_ReferenceIdeal (hReferenceIdeal := Cert.ReferenceIdeal.Gen.facts) := fun m ρ _ =>
  (θ_run Cert.ReferenceIdeal.defs _ _).mono (fun _ h => ⟨fun c => (h.1 c).1, h.2⟩) (Cert.WholeProof.run_whole (F := Ideal) m ρ)

end Cert.RingProof

end
-- ==== Proof.Value.lean ====
/-
  The values, over the extended reals. Each partial product of the kernel is a sum over the 1024 columns one device holds;
  the message that reaches device `c` has gathered the other three devices' partial products for `c`'s rows; with its own
  the sum runs over all 4096 columns, which is the reference's product.
-/
module

public import Idealize.ShloMosaic.Lib.MatmulPlain
public import Idealize.ShloMosaic.Lib.StackMember
public import Idealize.ShloMosaic.Lib.Layout
public import proofs.«01_k».proof.Proof.Run
public import proofs.«01_k».proof.Proof.Ref

@[expose] public section

noncomputable section

namespace Cert.RingProof

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ)

/-- An entry, as an extended real whatever its format. -/
abbrev ev {S : Shape} {φ : FTy} (v : FVec Ideal S φ) (i : S.Idx) : EReal := v i

/-- The one entry of a vector of one entry. -/
def at0 : S1.Idx := fun a => ⟨0, by revert a; decide⟩
theorem at0_eq (i : S1.Idx) : i = at0 := funext fun a => by
  match a with
  | ⟨0, _⟩ => exact Subsingleton.elim (α := Fin 1) _ _

/-! ## One partial product -/

/-- The product of two tiles at an entry is the sum over the 1024 shared positions. -/
theorem tile_apply (A : FVec Ideal S1024x1024 .fp8e5m2) (B : FVec Ideal S1024x512 .fp8e5m2) (r : Fin 1024) (l : Fin 512) :
    ev (k0_pay30 A B) (ix2 r l) = ∑ k : Fin 1024, ev A (ix2 r k) * ev B (ix2 k l) := by
  show FloatOps.matmul (DotDims.plain 1024 1024 512) none A B (constant S1024x512 .f32 0x00000000#32) (ix2 r l) = _
  rw [Ideal.matmul_plain_apply]
  show Ideal.ofBits .f32 0x00000000#32 + _ = _
  rw [Ideal.ofBits_zero_f32, zero_add]

/-- Row `r` of chunk `q` among the 4096 rows; column `l` of half `di` of block `b` among the 8192 columns. -/
def rowAt (q : Fin 4) (r : Fin 1024) : Fin 4096 := ⟨q.val * 1024 + r.val, by omega⟩
def colAt (b : Fin 8) (di : Fin 2) (l : Fin 512) : Fin 8192 := ⟨b.val * 1024 + di.val * 512 + l.val, by omega⟩

theorem xch_apply (c : Dev nD) (q : Fin 4) (r k : Fin 1024) : ev (φ := .fp8e5m2) (xch m c q) (ix2 r k) = ev (XA m c) (ix2 (rowAt q r) k) := by
  show XA m c _ = _
  refine congrArg (XA m c) (funext fun a => Fin.ext ?_)
  match a with
  | ⟨0, _⟩ => show q.val * 1024 + 1 * r.val = q.val * 1024 + r.val; omega
  | ⟨1, _⟩ => show 0 + 1 * k.val = k.val; omega
theorem wh_apply (c : Dev nD) (b : Fin 8) (di : Fin 2) (k : Fin 1024) (l : Fin 512) :
    ev (φ := .fp8e5m2) (wh m c b di) (ix2 k l) = ev (WA m c) (ix2 k (colAt b di l)) := by
  show WA m c _ = _
  refine congrArg (WA m c) (funext fun a => Fin.ext ?_)
  match a with
  | ⟨0, _⟩ => show 0 + 1 * k.val = k.val; omega
  | ⟨1, _⟩ => show b.val * 1024 + di.val * 512 + 1 * l.val = b.val * 1024 + di.val * 512 + l.val; omega

/-- What device `d` contributes to row `R`, column `C` of the product. -/
def share (R : Fin 4096) (C : Fin 8192) (d : Dev nD) : EReal :=
  ∑ k : Fin 1024, ev (XA m d) (ix2 R k) * ev (WA m d) (ix2 k C)

theorem prt_apply (c : Dev nD) (q : Fin 4) (b : Fin 8) (di : Fin 2) (r : Fin 1024) (l : Fin 512) :
    ev (prt m c q b di) (ix2 r l) = share m (rowAt q r) (colAt b di l) c := by
  unfold prt share
  rw [tile_apply]
  exact Finset.sum_congr rfl fun k _ => by rw [xch_apply, wh_apply]

/-! ## A message -/

/-- A message as a matrix. -/
def got (di : Fin 2) (b : Fin 8) (s : ℕ) (c : Dev nD) : FVec Ideal S1024x512 .bf16 :=
  shapeCast S1024x512 (sent m di b s c) shapeCasts_S1x1x1024x512_S1024x512

theorem got_zero (di : Fin 2) (b : Fin 8) (c : Dev nD) : got m di b 0 c = prt m c (chD c di 0) b di := by
  show shapeCast S1024x512 (shapeCast S1x1x1024x512 (prt m c (chD c di 0) b di) shapeCasts_S1024x512_S1x1x1024x512) _ = _
  exact shapeCast_shapeCast _ _ _
theorem got_succ (di : Fin 2) (b : Fin 8) (s : ℕ) (c : Dev nD) (j : S1024x512.Idx) : ev (got m di b (s + 1) c) j
    = ev (prt m c (chD c di (s + 1)) b di) j + ev (got m di b s (upD c di)) j := by
  have e : got m di b (s + 1) c = addf (F := Ideal) (φ := .f32) (prt m c (chD c di (s + 1)) b di) (got m di b s (upD c di)) := by
    show shapeCast S1024x512 (shapeCast S1x1x1024x512 (addf (F := Ideal) (φ := .f32) (prt m c (chD c di (s + 1)) b di) (got m di b s (upD c di)))
      shapeCasts_S1024x512_S1x1x1024x512) _ = _
    exact shapeCast_shapeCast _ _ _
  show got m di b (s + 1) c j = _
  rw [e]; rfl

/-- The rows a message is for, seen from the device it ends at. -/
theorem chD_two (c : Dev nD) (di : Fin 2) : chD (upD c di) di 2 = c := by revert c di; decide
theorem chD_one (c : Dev nD) (di : Fin 2) : chD (upD (upD c di) di) di 1 = c := by revert c di; decide
theorem chD_zero (c : Dev nD) (di : Fin 2) : chD (upD (upD (upD c di) di) di) di 0 = c := by revert c di; decide

/-- Going up the ring from any device meets all four. -/
theorem ring_sum (f : Dev nD → EReal) (c : Dev nD) (di : Fin 2) :
    f c + (f (upD c di) + (f (upD (upD c di) di) + f (upD (upD (upD c di) di) di))) = ∑ d, f d := by
  have e : ∀ (c : Dev nD) (di : Fin 2), ({c, upD c di, upD (upD c di) di, upD (upD (upD c di) di) di} : Finset (Dev nD)) = Finset.univ
    ∧ c ∉ ({upD c di, upD (upD c di) di, upD (upD (upD c di) di) di} : Finset (Dev nD))
    ∧ upD c di ∉ ({upD (upD c di) di, upD (upD (upD c di) di) di} : Finset (Dev nD))
    ∧ upD (upD c di) di ∉ ({upD (upD (upD c di) di) di} : Finset (Dev nD)) := by decide
  obtain ⟨h, h0, h1, h2⟩ := e c di
  rw [← h, Finset.sum_insert h0, Finset.sum_insert h1, Finset.sum_insert h2, Finset.sum_singleton]

/-- A half block of the result at an entry: all four shares, scaled, and the maximum with zero. -/
theorem resH_apply (c : Dev nD) (b : Fin 8) (di : Fin 2) (r : Fin 1024) (l : Fin 512) : ev (resH m c b di) (ix2 r l)
    = max ((∑ d, share m (rowAt c r) (colAt b di l) d) * (gs m c : EReal)) 0 := by
  have e : ev (resH m c b di) (ix2 r l) = max ((ev (prt m c c b di) (ix2 r l)
      + ev (got m di b 2 (upD c di)) (ix2 r l)) * (gs m c : EReal)) (Ideal.ofBits .f32 0x00000000#32) := by
    show resH m c b di (ix2 r l) = _
    unfold resH k0_pay108
    rw [shapeCast_self]
    rfl
  rw [e, Ideal.ofBits_zero_f32, got_succ, got_succ, got_zero, prt_apply, prt_apply, prt_apply, prt_apply, chD_two, chD_one, chD_zero,
    ← ring_sum _ c di]

/-- The result of device `c` at an entry. -/
theorem OUT_apply (c : Dev nD) (r : Fin 1024) (C : Fin 8192) :
    ev (OUT m c) (ix2 r C) = max ((∑ d, share m (rowAt c r) C d) * (gs m c : EReal)) 0 := by
  have hi : idxH (ix2 r C) = ix2 r ⟨C.val % 512, Nat.mod_lt _ (by decide)⟩ := by
    funext a; apply Fin.ext
    match a with
    | ⟨0, _⟩ => rfl
    | ⟨1, _⟩ => rfl
  have hC : colAt (blkOf (ix2 r C)) (halfOf (ix2 r C)) ⟨C.val % 512, Nat.mod_lt _ (by decide)⟩ = C := by
    apply Fin.ext
    show C.val / 1024 * 1024 + C.val % 1024 / 512 * 512 + C.val % 512 = C.val
    omega
  show ev (resH m c (blkOf (ix2 r C)) (halfOf (ix2 r C))) (idxH (ix2 r C)) = _
  rw [hi, resH_apply, hC]

/-! ## The scale -/

/-- The scale is the product of the two scales. -/
theorem gs_apply (c : Dev nD) : (gs m c : EReal)
    = ev (S := S1) (φ := .f32) (m ((c : Thread nD τ).loc main_arg2)) at0 * ev (S := S1) (φ := .f32) (m ((c : Thread nD τ).loc main_arg3)) at0 := by
  have e : V m c main_v4 = shapeCast S1x1 (mulf (F := Ideal) (φ := .f32) (shapeCast S_ (m ((c : Thread nD τ).loc main_arg2)) shapeCasts_S1_S_)
      (shapeCast S_ (m ((c : Thread nD τ).loc main_arg3)) shapeCasts_S1_S_)) shapeCasts_S_S1x1 := by
    unfold V
    after_results
    rfl
  show V m c main_v4 _ = _
  rw [e]
  show ev (S := S1) (φ := .f32) (m ((c : Thread nD τ).loc main_arg2)) _ * ev (S := S1) (φ := .f32) (m ((c : Thread nD τ).loc main_arg3)) _ = _
  rw [at0_eq (Shape.reshapeEquiv _ _)]

/-! ## The reference -/

/-- The reference's result at an entry. -/
theorem whole_apply (x : FVec Ideal Cert.ReferenceIdeal.S4096x4096 .f32) (w : FVec Ideal Cert.ReferenceIdeal.S4096x8192 .f32)
    (s t : FVec Ideal Cert.ReferenceIdeal.S1 .f32) (R : Fin 4096) (C : Fin 8192) : ev (Cert.WholeProof.whole x w s t) (ix2 R C)
    = max ((∑ k : Fin 4096, ev x (ix2 R k) * ev w (ix2 k C)) * (ev s at0 * ev t at0)) 0 := by
  have e : ∃ i : S1.Idx, ev (Cert.WholeProof.whole x w s t) (ix2 R C)
      = max (ev (Host.dotGeneral (DotDims.plain 4096 4096 8192) none x w) (ix2 R C) * (ev s i * ev t i)) (Ideal.ofBits .f32 0x00000000#32) := ⟨_, rfl⟩
  obtain ⟨i, e⟩ := e
  rw [e, at0_eq i, Ideal.ofBits_zero_f32]
  exact congrArg (fun z : EReal => max (z * _) 0) (StackMember.dotGeneral_plain_apply (m := 4096) (n := 8192) none x w R C)

/-! ## Together -/

/-- A sum over 4096 positions, 1024 at a time. -/
theorem sum_cut (f : Fin 4096 → EReal) : ∑ k, f k = ∑ d : Fin 4, ∑ k : Fin 1024, f (rowAt d k) := by
  rw [← Fintype.sum_prod_type' (fun (d : Fin 4) (k : Fin 1024) => f (rowAt d k)), ← Equiv.sum_comp (finProdFinEquiv (m := 4) (n := 1024))]
  refine Finset.sum_congr rfl fun p _ => congrArg f (Fin.ext ?_)
  show p.2.val + 1024 * p.1.val = p.1.val * 1024 + p.2.val
  omega

/-- When the devices hold the column blocks of `x`, the row blocks of `w` and the two scales, device `c` ends with the row
    block `c` of the reference's result. -/
theorem OUT_block (x : FVec Ideal Cert.ReferenceIdeal.S4096x4096 .f32) (w : FVec Ideal Cert.ReferenceIdeal.S4096x8192 .f32)
    (s t : FVec Ideal Cert.ReferenceIdeal.S1 .f32)
    (hx : ∀ d : Dev nD, m ((d : Thread nD τ).loc main_arg0) = Layout.block ⟨2, ![4096, 1024]⟩ ⟨2, ![4096, 4096]⟩ 1 4 d x)
    (hw : ∀ d : Dev nD, m ((d : Thread nD τ).loc main_arg1) = Layout.block ⟨2, ![1024, 8192]⟩ ⟨2, ![4096, 8192]⟩ 0 4 d w)
    (hs : ∀ d : Dev nD, m ((d : Thread nD τ).loc main_arg2) = s) (ht : ∀ d : Dev nD, m ((d : Thread nD τ).loc main_arg3) = t)
    (c : Dev nD) : OUT m c = Layout.block ⟨2, ![1024, 8192]⟩ ⟨2, ![4096, 8192]⟩ 0 4 c (Cert.WholeProof.whole x w s t) := by
  funext i
  obtain ⟨r, C, rfl⟩ : ∃ (r : Fin 1024) (C : Fin 8192), i = ix2 r C := ⟨i 0, i 1, eq_ix2 i⟩
  have hX : ∀ (d : Dev nD) (R : Fin 4096) (k : Fin 1024), ev (XA m d) (ix2 R k) = ev x (ix2 R (rowAt d k)) := fun d R k => by
    rw [show XA m d = _ from (V_main_arg0 m d).trans (hx d)]
    refine congrArg x (funext fun a => Fin.ext ?_)
    match a with
    | ⟨0, _⟩ => rfl
    | ⟨1, _⟩ => rfl
  have hW : ∀ (d : Dev nD) (k : Fin 1024) (C : Fin 8192), ev (WA m d) (ix2 k C) = ev w (ix2 (rowAt d k) C) := fun d k C => by
    rw [show WA m d = _ from (V_main_arg1 m d).trans (hw d)]
    refine congrArg w (funext fun a => Fin.ext ?_)
    match a with
    | ⟨0, _⟩ => rfl
    | ⟨1, _⟩ => rfl
  have hI : (Layout.block ⟨2, ![1024, 8192]⟩ ⟨2, ![4096, 8192]⟩ 0 4 c (Cert.WholeProof.whole x w s t) : S1024x8192.Idx → EReal) (ix2 r C)
      = ev (Cert.WholeProof.whole x w s t) (ix2 (rowAt c r) C) := by
    refine congrArg (Cert.WholeProof.whole x w s t) (funext fun a => Fin.ext ?_)
    match a with
    | ⟨0, _⟩ => rfl
    | ⟨1, _⟩ => rfl
  show ev (OUT m c) (ix2 r C) = _
  rw [OUT_apply, hI, whole_apply, gs_apply, hs, ht, sum_cut]
  refine congrArg (fun z : EReal => max (z * _) 0) (Finset.sum_congr rfl fun d _ => Finset.sum_congr rfl fun k _ => ?_)
  rw [hX, hW]

end Cert.RingProof

end
-- ==== Proof.lean ====
/-
  The claims about the kernel and its reference: all three programs run to the end from any memory and leave their arguments
  and their semaphore counters as they were; the two printings of the kernel agree; and over the extended reals the four
  devices' results are the four row blocks of the reference's result.
-/
module

public import proofs.«01_k».proof.Defs
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- When the devices hold the blocks of the reference's arguments, the kernel leaves on each device the row block of what
    the reference leaves. -/
theorem algebraic : Cert.algebraic_KernelIdeal_ReferenceIdeal (hKernelIdeal := Cert.KernelIdeal.Gen.facts)
    (hReferenceIdeal := Cert.ReferenceIdeal.Gen.facts) := fun m g m' g' _ h =>
  ⟨_, (θ_run Cert.KernelIdeal.defs _ _).mono (fun _ hr c =>
      ⟨((hr.1 c).2).trans (Cert.RingProof.OUT_block m _ _ _ _ (fun d => (h d).1) (fun d => (h d).2.1) (fun d => (h d).2.2.1)
        (fun d => (h d).2.2.2) c), (hr.1 c).1⟩) (Cert.RingProof.run_main (F := Ideal) m g),
    (θ_run Cert.ReferenceIdeal.defs _ _).mono (fun _ hr => ⟨(hr.1 0).2, (hr.1 0).1⟩) (Cert.WholeProof.run_whole (F := Ideal) m' g')⟩

/-- All five claims. -/
theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial, algebraic⟩

end Cert.Proof

end
